-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 8192]⟩ ⟨2, ![4096, 8192]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 8192]⟩ ⟨2, ![4096, 8192]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v10) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S512x8192 : Shape := ⟨2, ![512, 8192]⟩
abbrev S1 : Shape := ⟨1, ![1]⟩
abbrev S4x512x1024 : Shape := ⟨3, ![4, 512, 1024]⟩
abbrev S4 : Shape := ⟨1, ![4]⟩
abbrev S_ : Shape := ⟨0, ![]⟩
abbrev S512x512 : Shape := ⟨2, ![512, 512]⟩
abbrev S512x1024 : Shape := ⟨2, ![512, 1024]⟩
abbrev S1x512x1024 : Shape := ⟨3, ![1, 512, 1024]⟩

abbrev nBuf : Space → Nat
  | .hbm => 5
  | .vmem => 7
  | .smem => 2
  | _ => 0

abbrev bufTy : (tb : Table) → Fin (tcTables nBuf tb) → BufTy
  | .hbm, ⟨0, _⟩ => ⟨S4096x512, .i8⟩
  | .hbm, ⟨1, _⟩ => ⟨S512x8192, .i8⟩
  | .hbm, ⟨2, _⟩ => ⟨S1, .f32⟩
  | .hbm, ⟨3, _⟩ => ⟨S1, .f32⟩
  | .hbm, ⟨4, _⟩ => ⟨S512x8192, .f32⟩
  | .local _ .vmem, ⟨0, _⟩ => ⟨S4096x512, .i8⟩
  | .local _ .vmem, ⟨1, _⟩ => ⟨S512x8192, .i8⟩
  | .local _ .vmem, ⟨2, _⟩ => ⟨S512x8192, .f32⟩
  | .local _ .vmem, ⟨3, _⟩ => ⟨S4x512x1024, .i32⟩
  | .local _ .vmem, ⟨4, _⟩ => ⟨S4x512x1024, .i32⟩
  | .local _ .vmem, ⟨5, _⟩ => ⟨S4x512x1024, .i32⟩
  | .local _ .vmem, ⟨6, _⟩ => ⟨S4x512x1024, .i32⟩
  | .local _ .smem, ⟨0, _⟩ => ⟨S1, .f32⟩
  | .local _ .smem, ⟨1, _⟩ => ⟨S1, .f32⟩
  | _, _ => ⟨S4096x512, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  (ofTc nBuf bufTy 9 21 bufScoped semScoped dmaSemScoped tileCredit tileCredit_eq_zero tileCredit_pos).withBarriers [(0, 8)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 8

abbrev nD : Nat := 8
abbrev τ : Topo := Topo.v7x

variable {F : FTy → Type} [FloatOps F]

abbrev grid0 : Pipeline.Grid := .none

def k0_dev1 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  v7.toNat
def k0_dev2 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  v4.toNat
def k0_off1 (d0 : Dev nD) (c15_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v12 : BitVec 32 := Scalar.addi v2 c15_i32
  let c8_i32_8 : BitVec 32 := 8#32
  let v13 : BitVec 32 := Scalar.remsi v12 c8_i32_8
  let c512_i32 : BitVec 32 := 512#32
  let v16 : BitVec 32 := Scalar.muli v13 c512_i32
  let v17 : Index := Scalar.indexCast v16
  let c0_11 : Index := 0#32
  ![v17.toNat, 0]
def k0_dev3 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  v4.toNat
def k0_dev4 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  v7.toNat
def k0_dev5 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  v4.toNat
def k0_dev6 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  v7.toNat
def k0_dev7 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  v4.toNat
def k0_dev8 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  v7.toNat
def k0_dev9 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  v4.toNat
def k0_dev10 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  v7.toNat
def k0_dev11 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  v7.toNat
def k0_dev12 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  v4.toNat
def k0_dev13 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  v4.toNat
def k0_dev14 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  v7.toNat
def k0_dev15 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  v7.toNat
def k0_dev16 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  v4.toNat
def k0_dev17 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  v4.toNat
def k0_dev18 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  v7.toNat
def k0_dev19 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  v7.toNat
def k0_dev20 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  v4.toNat
def k0_dev21 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  v4.toNat
def k0_dev22 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  v7.toNat
def k0_dev23 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  v7.toNat
def k0_dev24 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  v4.toNat
def k0_dev25 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  v4.toNat
def k0_dev26 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  v7.toNat
def k0_dev27 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  v7.toNat
def k0_dev28 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  v4.toNat
def k0_dev29 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  v4.toNat
def k0_dev30 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  v7.toNat
def k0_dev31 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  v7.toNat
def k0_dev32 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  v4.toNat
def k0_dev33 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  v4.toNat
def k0_dev34 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  v7.toNat
def k0_dev35 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  v7.toNat
def k0_dev36 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  v4.toNat
def k0_dev37 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  v4.toNat
def k0_dev38 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  v7.toNat
def k0_dev39 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  v7.toNat
def k0_dev40 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  v4.toNat
def k0_dev41 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  v4.toNat
def k0_dev42 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  v7.toNat
def k0_dev43 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  v7.toNat
def k0_dev44 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  v4.toNat
def k0_dev45 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  v4.toNat
def k0_dev46 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  v7.toNat
def k0_dev47 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  v7.toNat
def k0_dev48 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  v4.toNat
def k0_dev49 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  v4.toNat
def k0_dev50 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  v7.toNat
def k0_dev51 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  v7.toNat
def k0_dev52 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  v4.toNat
def k0_dev53 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  v4.toNat
def k0_dev54 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  v7.toNat
def k0_dev55 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  v7.toNat
def k0_dev56 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  v4.toNat
def k0_dev57 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  v4.toNat
def k0_dev58 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  v7.toNat
def k0_dev59 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  v7.toNat
def k0_dev60 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  v4.toNat
def k0_dev61 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  v4.toNat
def k0_dev62 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  v7.toNat
def k0_dev63 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  v7.toNat
def k0_dev64 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  v4.toNat
def k0_dev65 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  v4.toNat
def k0_dev66 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  v7.toNat
def k0_dev67 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  v7.toNat
def k0_dev68 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  v4.toNat
def k0_dev69 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  v4.toNat
def k0_dev70 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  v7.toNat
def k0_dev71 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  v7.toNat
def k0_dev72 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  v4.toNat
def k0_dev73 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  v4.toNat
def k0_dev74 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  v7.toNat
def k0_dev75 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  v7.toNat
def k0_dev76 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  v4.toNat
def k0_dev77 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  v4.toNat
def k0_dev78 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  v7.toNat
def k0_dev79 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  v7.toNat
def k0_dev80 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  v4.toNat
def k0_dev81 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  v4.toNat
def k0_dev82 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  v7.toNat
def k0_dev83 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  v7.toNat
def k0_dev84 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  v4.toNat
def k0_dev85 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  v4.toNat
def k0_dev86 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  v7.toNat
def k0_dev87 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  v7.toNat
def k0_dev88 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  v4.toNat
def k0_dev89 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  v4.toNat
def k0_dev90 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  v7.toNat
def k0_dev91 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  v7.toNat
def k0_dev92 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  v4.toNat
def k0_dev93 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  v4.toNat
def k0_dev94 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  v7.toNat
def k0_dev95 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  v7.toNat
def k0_dev96 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  v4.toNat
def k0_dev97 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  v4.toNat
def k0_dev98 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  v7.toNat
def k0_dev99 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  v7.toNat
def k0_dev100 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  v4.toNat
def k0_dev101 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  v4.toNat
def k0_dev102 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  v7.toNat
def k0_dev103 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  v7.toNat
def k0_dev104 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  v4.toNat
def k0_dev105 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  v4.toNat
def k0_dev106 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  v7.toNat
abbrev stage0_0 : Fin 1 → Memref sig .tc .vmem S4096x512 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x8192 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4096x4096, .i8⟩
  | .hbm, ⟨1, _⟩ => ⟨S4096x8192, .i8⟩
  | .hbm, ⟨2, _⟩ => ⟨S1, .f32⟩
  | .hbm, ⟨3, _⟩ => ⟨S1, .f32⟩
  | .hbm, ⟨4, _⟩ => ⟨S4096x4096, .i32⟩
  | .hbm, ⟨5, _⟩ => ⟨S4096x4096, .f32⟩
  | .hbm, ⟨6, _⟩ => ⟨S4096x8192, .i32⟩
  | .hbm, ⟨7, _⟩ => ⟨S4096x8192, .f32⟩
  | .hbm, ⟨8, _⟩ => ⟨S4096x8192, .f32⟩
  | .hbm, ⟨9, _⟩ => ⟨S1, .f32⟩
  | .hbm, ⟨10, _⟩ => ⟨S1x1, .f32⟩
  | .hbm, ⟨11, _⟩ => ⟨S4096x8192, .f32⟩
  | .hbm, ⟨12, _⟩ => ⟨S4096x8192, .f32⟩
  | .hbm, ⟨13, _⟩ => ⟨S_, .f32⟩
  | .hbm, ⟨14, _⟩ => ⟨S4096x8192, .f32⟩
  | .hbm, ⟨15, _⟩ => ⟨S4096x8192, .f32⟩
  | _, _ => ⟨S4096x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Proof.Prog.lean ====
/-
# `01_k` — the kernel's body as a loop

The printed body is the kernel's text written out: the two ring directions, four sub-blocks and eight steps are
unrolled. Here the same operations are written once, at a symbolic direction, sub-block and step, and the printed body
is shown to be their sequence (`body_eq`).
-/
module

public import proofs.«01_k».proof.Proof.Gen.KernelIdeal.Skeleton
public import proofs.«01_k».proof.Proof.Gen.KernelIdeal.Launch

@[expose] public section

set_option maxRecDepth 16384

noncomputable section

namespace Cert.KernelIdeal

open Idealize.ShloMosaic Idealize.ShloMosaic.TcCoe
open Idealize.SL Idealize.SL.Sem
open Facts₀ Facts

variable {F : FTy → Type} [FloatOps F]

/-- A ring direction: `false` sends to the right neighbour, `true` to the left. -/
abbrev Dir : Type := Bool
/-- A channel: a direction and one of the four sub-blocks. -/
abbrev Chan : Type := Dir × Fin 4

/-- The right neighbour on the ring. -/
abbrev rt (c : Dev nD) : Dev nD := ⟨k0_dev2 c, k0_dev2_lt c⟩
/-- The left neighbour. -/
abbrev lf (c : Dev nD) : Dev nD := ⟨k0_dev1 c, k0_dev1_lt c⟩
/-- Where a device's messages of a direction go, -/
def dstD : Dir → Dev nD → Dev nD | false => rt | true => lf
/-- and where they come from. -/
def upsD : Dir → Dev nD → Dev nD | false => lf | true => rt

/-- The partial sums a device sends, per direction, -/
def accM : Dir → Memref sig .tc .vmem S4x512x1024 .i32 | false => Memref.whole cc0_scratch0 | true => Memref.whole cc0_scratch1
/-- and the buffers it receives into. -/
def rbufM : Dir → Memref sig .tc .vmem S4x512x1024 .i32 | false => Memref.whole cc0_scratch2 | true => Memref.whole cc0_scratch3

/-- The semaphores of a direction, one of each kind per sub-block: a transfer's source, -/
def sendArr : Dir → DmaSems sig S4 | false => cc0_scratch4 | true => cc0_scratch5
/-- its arrival, -/
def recvArr : Dir → DmaSems sig S4 | false => cc0_scratch6 | true => cc0_scratch7
/-- and the receiver's notice that its buffer is free again. -/
def credArr : Dir → Sems sig S4 | false => cc0_scratch8 | true => cc0_scratch9

theorem slot_inb (q : Fin 4) : ∀ a, (![q.val, 0, 0] : Fin 3 → Nat) a + S1x512x1024.size a ≤ S4x512x1024.size a := by
  revert q; decide
theorem sem_inb (q : Fin 4) : ∀ a, (![q.val] : Fin 1 → Nat) a + S1.size a ≤ S4.size a := by
  revert q; decide

/-- Sub-block `q`'s part of a buffer of four. -/
abbrev slotR (q : Fin 4) : Rect S4x512x1024 := Rect.unit (s := S4x512x1024) ![q.val, 0, 0] S1x512x1024.size (slot_inb q)
/-- The same part as a matrix. -/
abbrev slotM (m : Memref sig .tc .vmem S4x512x1024 .i32) (q : Fin 4) : Memref sig .tc .vmem S512x1024 .i32 :=
  (m.slice (slotR q) (fun _ => rfl)).squeeze S512x1024 squeezes_S1x512x1024_S512x1024

abbrev sendS (d : Dir) (q : Fin 4) : DmaSem sig :=
  (((sendArr d).slice (Rect.unit (s := S4) ![q.val] S1.size (sem_inb q))).squeeze S_ squeezes_S1_S_).sem
abbrev recvS (d : Dir) (q : Fin 4) : DmaSem sig :=
  (((recvArr d).slice (Rect.unit (s := S4) ![q.val] S1.size (sem_inb q))).squeeze S_ squeezes_S1_S_).sem
abbrev credS (d : Dir) (q : Fin 4) : Sem sig :=
  (((credArr d).slice (Rect.unit (s := S4) ![q.val] S1.size (sem_inb q))).squeeze S_ squeezes_S1_S_).sem
/-- The barrier semaphore. -/
abbrev barS : Sem sig := (SemArray.scalar (sig.barrier 0 rfl) : Sems sig S_).sem

/-- Which of the printed row offsets a step of a direction uses. -/
def rowIx : Dir → Fin 8 → Fin 15
  | false, s => ⟨14 - s.val, by omega⟩
  | true, s => ⟨s.val, by omega⟩
/-- The rows of `x` a step multiplies. -/
abbrev rowR (c : Dev nD) (d : Dir) (s : Fin 8) : Rect S4096x512 :=
  Rect.unit (s := S4096x512) (k0_off1 c (BitVec.ofNat 32 (1 + (rowIx d s).val))) S512x512.size (k0_off1_inb c (rowIx d s))

/-- A channel's first column. -/
def colOf (d : Dir) (q : Fin 4) : Nat := (if d then 4096 else 0) + 1024 * q.val
theorem colOf_inb (d : Dir) (q : Fin 4) : ∀ a, (![0, colOf d q] : Fin 2 → Nat) a + S512x1024.size a ≤ S512x8192.size a := by
  revert d q; decide
/-- A channel's columns. -/
abbrev colR (d : Dir) (q : Fin 4) : Rect S512x8192 := Rect.unit (s := S512x8192) ![0, colOf d q] S512x1024.size (colOf_inb d q)

/-- The product of a block of `x` and a block of `w`, as the first step stores it, -/
abbrev firstSum (x : Vec F S512x512 .i8) (w : Vec F S512x1024 .i8) : IVec S1x512x1024 32 := Gen.k0_pay3 x w
/-- a later step's, added to the partial sum received, -/
abbrev nextSum (x : Vec F S512x512 .i8) (w : Vec F S512x1024 .i8) (r : Vec F S1x512x1024 .i32) : IVec S1x512x1024 32 :=
  Gen.k0_pay20 (Gen.k0_pay19 x w) r
/-- and the result block. -/
abbrev lastOut (sc : F .f32) (x : Vec F S512x512 .i8) (w : Vec F S512x1024 .i8) (r : Vec F S1x512x1024 .i32) : FVec F S512x1024 .f32 :=
  Gen.k0_pay1 sc (Gen.k0_pay19 x w) r

/-- Programs of the kernel. -/
abbrev KProg (F : FTy → Type) [FloatOps F] : Type 1 := Prog (TpuEff nD τ sig (Elt F) Λ₀ .tc) PUnit

abbrev stgX : Memref sig .tc .vmem S4096x512 .i8 := Memref.whole cc0_stg0_0
abbrev stgW : Memref sig .tc .vmem S512x8192 .i8 := Memref.whole cc0_stg1_0
abbrev stgO : Memref sig .tc .vmem S512x8192 .f32 := Memref.whole cc0_stg4_0

/-- Wait until a channel's outgoing transfer has read its source. -/
def waitSendK (d : Dir) (q : Fin 4) (k : KProg F) : KProg F :=
  Prog.op (.waitDma2 (sendS d q) (slotM (rbufM d) q) (slotM (accM d) q)
    ((View.wordExact_bits rfl).reshape _ _) ((View.wordExact_bits rfl).reshape _ _)) fun _ => k

/-- Wait for a channel's incoming transfer. -/
def waitRecvK (d : Dir) (q : Fin 4) (k : KProg F) : KProg F :=
  Prog.op (.waitDma2 (recvS d q) (slotM (accM d) q) (slotM (rbufM d) q)
    ((View.wordExact_bits rfl).reshape _ _) ((View.wordExact_bits rfl).reshape _ _)) fun _ => k

/-- Load the blocks of `x` and `w` a step multiplies. -/
def loadXWK (c : Dev nD) (d : Dir) (q : Fin 4) (s : Fin 8)
    (k : Vec F S512x512 .i8 → Vec F S512x1024 .i8 → KProg F) : KProg F :=
  Prog.op (.load stgX (rowR c d s).toLoadRect (View.loadsAt_vmem h_S512x512)) fun x =>
  Prog.op (.load stgW (colR d q).toLoadRect (View.loadsAt_vmem h_S512x1024)) fun w => k x w

/-- Load a sub-block of a buffer of four. -/
def loadSlotK (m : Memref sig .tc .vmem S4x512x1024 .i32) (q : Fin 4) (k : Vec F S1x512x1024 .i32 → KProg F) : KProg F :=
  Prog.op (.load m (slotR q).toLoadRect (View.loadsAt_vmem h_S1x512x1024)) fun r => k r

/-- Store a partial sum (the kernel loads the old contents first and drops them). -/
def storeAccK (d : Dir) (q : Fin 4) (v : IVec S1x512x1024 32) (k : KProg F) : KProg F :=
  loadSlotK (accM d) q fun _ =>
  Prog.op (.store (accM d) (slotR q) v Finset.univ (View.stores_vmem_bits_univ h_S1x512x1024 rfl) (.inl rfl)) fun _ => k

/-- Store a channel's columns of the result (likewise). -/
def storeOutK (d : Dir) (q : Fin 4) (v : FVec F S512x1024 .f32) (k : KProg F) : KProg F :=
  Prog.op (.load stgO (colR d q).toLoadRect (View.loadsAt_vmem h_S512x1024)) fun _ =>
  Prog.op (.store stgO (colR d q) v Finset.univ (View.stores_vmem_bits_univ h_S512x1024 rfl) (.inl rfl)) fun _ => k

theorem notSc (d : Dir) (q : Fin 4) : (slotM (rbufM d) q).view.ref.isScScratch = false := by cases d <;> rfl

/-- Send a channel's partial sum on. -/
def sendAccK (c : Dev nD) (d : Dir) (q : Fin 4) (k : KProg F) : KProg F :=
  Prog.op (.enqueueDma (slotM (accM d) q) (.remote (Dev.tc (dstD d c)) (slotM (rbufM d) q) (.dma (sendS d q)) (notSc d q)) (.dma (recvS d q))
    ((View.wordExact_bits rfl).reshape _ _) ((View.wordExact_bits rfl).reshape _ _) ⟨⟨rfl, Or.inl rfl⟩, trivial⟩) fun _ => k

/-- The computing part of a channel's first step, -/
def comp0K (c : Dev nD) (d : Dir) (q : Fin 4) (s : Fin 8) (k : KProg F) : KProg F :=
  loadXWK c d q s fun x w => storeAccK d q (firstSum x w) k
/-- of its last one, -/
def comp7K (c : Dev nD) (sc : F .f32) (d : Dir) (q : Fin 4) (s : Fin 8) (k : KProg F) : KProg F :=
  waitSendK d q <| loadXWK c d q s fun x w => waitRecvK d q <| loadSlotK (rbufM d) q fun r =>
  storeOutK d q (lastOut sc x w r) k
/-- and of those between, which free the receiving buffer. -/
def compMK (c : Dev nD) (d : Dir) (q : Fin 4) (s : Fin 8) (k : KProg F) : KProg F :=
  waitSendK d q <| loadXWK c d q s fun x w => waitRecvK d q <| loadSlotK (rbufM d) q fun r =>
  storeAccK d q (nextSum x w r) <|
  Prog.op (.semSignal (Dev.tc (upsD d c)) (credS d q) (1#32 : BitVec 32).toInt) fun _ => k

/-- The computing part of a channel's step. -/
def compK (c : Dev nD) (sc : F .f32) (d : Dir) (q : Fin 4) (s : Fin 8) (k : KProg F) : KProg F :=
  if s.val = 0 then comp0K c d q s k else if s.val = 7 then comp7K c sc d q s k else compMK c d q s k

/-- The sending part of a channel's step: the first is covered by the barrier, later ones wait for the receiver's
    notice, and nothing is sent at the last. -/
def sendK (c : Dev nD) (d : Dir) (q : Fin 4) (s : Fin 8) (k : KProg F) : KProg F :=
  if s.val = 0 then sendAccK c d q k else if s.val = 7 then k
  else Prog.op (.semWait (credS d q) (1#32 : BitVec 32).toInt) fun _ => sendAccK c d q k

/-- Part `i` of the 128 the body runs, sixteen to a step: four to a sub-block, its two directions' computing then their
    sending. Its step, -/
def stepOf (i : Nat) : Fin 8 := ⟨i / 16 % 8, Nat.mod_lt _ (by decide)⟩
/-- its sub-block, -/
def subOf (i : Nat) : Fin 4 := ⟨i / 4 % 4, Nat.mod_lt _ (by decide)⟩
/-- and its direction. -/
def dirOf (i : Nat) : Dir := decide (i % 2 = 1)

/-- Part `i` of the body. -/
def partK (c : Dev nD) (sc : F .f32) (i : Nat) (k : KProg F) : KProg F :=
  if i / 2 % 2 = 0 then compK c sc (dirOf i) (subOf i) (stepOf i) k else sendK c (dirOf i) (subOf i) (stepOf i) k

/-- `n` parts from part `i` on. -/
def partsK (c : Dev nD) (sc : F .f32) : Nat → Nat → KProg F
  | 0, _ => Prog.ret ⟨⟩
  | n + 1, i => partK c sc i (partsK c sc n (i + 1))

/-- The body: the handshake with both neighbours, the two scales, the parts. -/
def bodyK : KProg F :=
  Prog.op .deviceId fun c =>
  Prog.op (.semSignal (Dev.tc (lf c)) barS (1#32 : BitVec 32).toInt) fun _ =>
  Prog.op (.semSignal (Dev.tc (rt c)) barS (1#32 : BitVec 32).toInt) fun _ =>
  Prog.op (.semWait barS (2#32 : BitVec 32).toInt) fun _ =>
  smemLoad (Memref.whole cc0_stg2_0) (Rect.unit (s := S1) ![0] S1.size inb_S1_S1_0) numel1_S1 rfl >>= fun v9 =>
  smemLoad (Memref.whole cc0_stg3_0) (Rect.unit (s := S1) ![0] S1.size inb_S1_S1_0) numel1_S1 rfl >>= fun v10 =>
  partsK c (Gen.k0_pay2 v9 v10) 128 0

set_option maxHeartbeats 4000000 in
set_option maxRecDepth 65536 in
/-- The printed body is the loop: by definitional unfolding. -/
theorem body_eq : cc0_body (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) cc0_scratch4 cc0_scratch5 cc0_scratch6 cc0_scratch7 cc0_scratch8 cc0_scratch9 = bodyK := by
  chain_rfl

end Cert.KernelIdeal

end
-- ==== Proof.Sched.lean ====
/-
# `01_k` — the protocol of the two rings

Eight channels (a direction and a sub-block) each carry seven messages around the ring of eight devices. A device's
cells are its barrier semaphore and, per channel, the semaphore a transfer raises at its source (`send`), the one it
raises at its destination (`recv`), and the one by which the receiver says that its buffer is free again (`cred`).
This module states the rounds of those cells — who pays, how much, and what the payment hands over —, the levels that
order the waits, and what a device owes before each of the 128 parts of its body.
-/
module

public import proofs.«01_k».proof.Proof.Prog
public import Idealize.ShloMosaic.Lib.Pipeline.Launch
public import Idealize.ShloMosaic.Lib.Pipeline.Kit
public import Idealize.ShloMosaic.Lib.Pipeline.Value
public import Idealize.ShloMosaic.Lib.Tactic

@[expose] public section

set_option maxRecDepth 16384

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

/-! ## The resource algebra: the pipeline's copy of the rounds and the rings' -/

abbrev UB : Type := URounds (GSem nD τ sig) Bool
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The ring -/

theorem dst_ups (d : Dir) (c : Dev nD) : dstD d (upsD d c) = c := by
  revert c; cases d <;> decide
theorem ups_dst (d : Dir) (c : Dev nD) : upsD d (dstD d c) = c := by
  revert c; cases d <;> decide

/-! ## The cells -/

/-- The kinds of a device's cells: its barrier, and per channel the three named above, in that order. -/
abbrev CK : Type := Option (Fin 3 × Chan)

/-- A kind's semaphore. -/
abbrev csem : CK → SemLoc sig
  | none => .reg barS
  | some (0, d, q) => .dma (sendS d q)
  | some (1, d, q) => .dma (recvS d q)
  | some (2, d, q) => .reg (credS d q)

abbrev barCell (c : Dev nD) : GSem nD τ sig := ((c : Thread nD τ), .reg barS)
abbrev sendCell (c : Dev nD) (d : Dir) (q : Fin 4) : GSem nD τ sig := ((c : Thread nD τ), .dma (sendS d q))
abbrev recvCell (c : Dev nD) (d : Dir) (q : Fin 4) : GSem nD τ sig := ((c : Thread nD τ), .dma (recvS d q))
abbrev credCell (c : Dev nD) (d : Dir) (q : Fin 4) : GSem nD τ sig := ((c : Thread nD τ), .reg (credS d q))
abbrev kcell (ck : Dev nD × CK) : GSem nD τ sig := ((ck.1 : Thread nD τ), csem ck.2)

theorem csem_injective : Function.Injective csem := by decide +kernel

theorem kcell_injective : Function.Injective (kcell : Dev nD × CK → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

open Classical in
/-- The kind of a semaphore, if it is one of the protocol's. -/
def kindOf (sm : SemLoc sig) : Option CK := if h : ∃ k, csem k = sm then some h.choose else none

theorem kindOf_csem (k : CK) : kindOf (csem k) = some k := by
  have h : ∃ k', csem k' = csem k := ⟨k, rfl⟩
  unfold kindOf
  rw [dif_pos h]
  exact congrArg some (csem_injective h.choose_spec)

theorem kindOf_stage (q : DmaSem sig) (hq : ∀ k, csem k ≠ .dma q) : kindOf (.dma q) = none :=
  dif_neg fun ⟨k, hk⟩ => hq k hk

/-! ## Buffers: a channel's slot of the partial sums and of the receiving buffer -/

/-- What a slot holds, as a load of it reads. -/
abbrev readSlot (M : Memref sig .tc .vmem S4x512x1024 .i32) (q : Fin 4) (f : M.view.ty.Contents (Elt F)) : Vec F S1x512x1024 .i32 :=
  M.view.readAt (Elt F) (slotR q).toLoadRect f

abbrev slotPts (M : Memref sig .tc .vmem S4x512x1024 .i32) (c : Dev nD) (q : Fin 4) (f : Buf (Elt F) (M.view.loc (c : Thread nD τ))) : sProp 𝕄 :=
  M.view.loc (c : Thread nD τ) ↦[(slotM M q).view.set]{fullShare} f

/-- A device's slot holding anything, -/
def slotAny (M : Memref sig .tc .vmem S4x512x1024 .i32) (c : Dev nD) (q : Fin 4) : sProp 𝕄 := iprop(∃ f, slotPts M c q f)
/-- and holding `v`. -/
def slotHas (M : Memref sig .tc .vmem S4x512x1024 .i32) (c : Dev nD) (q : Fin 4) (v : Vec F S1x512x1024 .i32) : sProp 𝕄 :=
  iprop(∃ f, ⌜readSlot M q f = v⌝ ∗ slotPts M c q f)

omit [FloatOps F] in
instance slotAny_storable (M : Memref sig .tc .vmem S4x512x1024 .i32) (c : Dev nD) (q : Fin 4) :
    BI.Storable (upEmb : UEmb _ 𝕄) (slotAny (F := F) M c q) := by unfold slotAny; infer_instance
omit [FloatOps F] in
instance slotHas_storable (M : Memref sig .tc .vmem S4x512x1024 .i32) (c : Dev nD) (q : Fin 4) (v : Vec F S1x512x1024 .i32) :
    BI.Storable (upEmb : UEmb _ 𝕄) (slotHas (F := F) M c q v) := by unfold slotHas; infer_instance

omit [FloatOps F] in
theorem slotHas_any (M : Memref sig .tc .vmem S4x512x1024 .i32) (c : Dev nD) (q : Fin 4) (v : Vec F S1x512x1024 .i32) :
    slotHas M c q v ⊢ slotAny M c q := by
  unfold slotHas slotAny
  iintro ⟨%f, -, H⟩
  iexists f; iexact H

/-! ## Contents -/

/-- What a device's staging buffers hold: its block of `x`, of `w`, and the two scales. -/
def xstg (c : Dev nD) : (cc0_stg0_0 : Ref sig .tc).ty.Contents (Elt F) :=
  (win0_0.blk (0 : Fin 1)).view.read (Elt F) ((s₀ m ρ).mem (win0_0.arr.view.loc (c : Thread nD τ)))
def wstg (c : Dev nD) : (cc0_stg1_0 : Ref sig .tc).ty.Contents (Elt F) :=
  (win0_1.blk (0 : Fin 1)).view.read (Elt F) ((s₀ m ρ).mem (win0_1.arr.view.loc (c : Thread nD τ)))
def sxstg (c : Dev nD) : (cc0_stg2_0 : Ref sig .tc).ty.Contents (Elt F) :=
  (win0_2.blk (0 : Fin 1)).view.read (Elt F) ((s₀ m ρ).mem (win0_2.arr.view.loc (c : Thread nD τ)))
def swstg (c : Dev nD) : (cc0_stg3_0 : Ref sig .tc).ty.Contents (Elt F) :=
  (win0_3.blk (0 : Fin 1)).view.read (Elt F) ((s₀ m ρ).mem (win0_3.arr.view.loc (c : Thread nD τ)))

/-- The number of a step, of any number. -/
abbrev stepN (n : ℕ) : Fin 8 := ⟨n % 8, Nat.mod_lt _ (by decide)⟩
theorem stepN_val (s : Fin 8) : stepN s.val = s := Fin.ext (Nat.mod_eq_of_lt s.isLt)

/-- The rows of `x` of a step, -/
def xBlk (d : Dir) (s : Fin 8) (c : Dev nD) : Vec F S512x512 .i8 :=
  stgX.view.readAt (Elt F) (rowR c d s).toLoadRect (xstg m ρ c)
/-- and a channel's columns of `w`. -/
def wBlk (d : Dir) (q : Fin 4) (c : Dev nD) : Vec F S512x1024 .i8 :=
  stgW.view.readAt (Elt F) (colR d q).toLoadRect (wstg m ρ c)

/-- The partial sum a channel's step leaves: its product, added to the one received. -/
def val (d : Dir) (q : Fin 4) : ℕ → Dev nD → Vec F S1x512x1024 .i32
  | 0, c => firstSum (xBlk m ρ d 0 c) (wBlk m ρ d q c)
  | s + 1, c => nextSum (xBlk m ρ d (stepN (s + 1)) c) (wBlk m ρ d q c) (val d q s (upsD d c))

/-- A word of scalar memory as the body reads it. -/
abbrev word1 : Rect S1 := Rect.unit (s := S1) ![0] S1.size inb_S1_S1_0
def scale (c : Dev nD) : F .f32 :=
  Gen.k0_pay2
    (((Memref.whole cc0_stg2_0 : Memref sig .tc .smem S1 .f32).access word1).read (Elt F) (sxstg m ρ c) (Shape.Idx.first ((numel1_S1 : word1.shape.numel = 1).symm ▸ Nat.one_pos)))
    (((Memref.whole cc0_stg3_0 : Memref sig .tc .smem S1 .f32).access word1).read (Elt F) (swstg m ρ c) (Shape.Idx.first ((numel1_S1 : word1.shape.numel = 1).symm ▸ Nat.one_pos)))

/-- A channel's columns of the result. -/
def outBlk (d : Dir) (q : Fin 4) (c : Dev nD) : FVec F S512x1024 .f32 :=
  lastOut (scale m ρ c) (xBlk m ρ d 7 c) (wBlk m ρ d q c) (val m ρ d q 6 (upsD d c))

/-! ## The schedule -/

/-- The credit of one message. -/
def N : ℕ := (slotM (rbufM false) 0).view.dmaCredit
theorem N_pos : 0 < N := View.dmaCredit_pos _ (by decide)
theorem credit_eq (d : Dir) (q : Fin 4) : (slotM (rbufM d) q).view.dmaCredit = N := by cases d <;> rfl
theorem credit_eq' (d : Dir) (q : Fin 4) : (slotM (accM d) q).view.dmaCredit = N := by cases d <;> rfl

/-- A round's duties: the barrier's one round has one per neighbour, every other round one. -/
def dutiesK : CK → ℕ → Finset Bool
  | none, r => if r = 0 then Finset.univ else ∅
  | some (0, _), r => if r < 7 then {false} else ∅
  | some (1, _), r => if r < 7 then {false} else ∅
  | some (2, _), r => if r < 6 then {false} else ∅

/-- A duty's units. -/
def amountK : CK → ℕ
  | none => 1
  | some (0, _) => N
  | some (1, _) => N
  | some (2, _) => 1

theorem amountK_pos (k : CK) : 0 < amountK k := by
  unfold amountK; split
  · exact Nat.one_pos
  · exact N_pos
  · exact N_pos
  · exact Nat.one_pos

/-- What a payment to device `b`'s cell hands it: a barrier signal, the receiving slots the payer lends; a transfer's
    source, its slot back; its arrival, the message and that the sender has had the notices of the rounds before; a
    notice, the receiver's slot and that the receiver awaits the next message. -/
def payK (b : Dev nD) : CK → ℕ → Bool → sProp 𝕄
  | none, _, d => bigSep Finset.univ fun q : Fin 4 => slotAny (rbufM d) (dstD d b) q
  | some (0, d, q), _, _ => slotAny (accM d) b q
  | some (1, d, q), r, _ => iprop(slotHas (rbufM d) b q (val m ρ d q r (upsD d b)) ∗ reached ER (credCell (upsD d b) d q) r)
  | some (2, d, q), r, _ => iprop(slotAny (rbufM d) (dstD d b) q ∗ reached ER (recvCell (dstD d b) d q) (r + 1))

instance payK_storable (b : Dev nD) (k : CK) (r : ℕ) (d : Bool) : BI.Storable (upEmb : UEmb _ 𝕄) (payK (F := F) m ρ b k r d) := by
  unfold payK; split <;> infer_instance

/-- The rounds of all cells. -/
def ringRd : Rounds.Schedule (GSem nD τ sig) Bool 𝕄 where
  duties g r := (kindOf g.2).elim ∅ fun k => dutiesK k r
  unitless _ := False
  amount g _ _ := (kindOf g.2).elim 1 amountK
  payload g r d := (kindOf g.2).elim iprop(emp) fun k => payK m ρ g.1.1 k r d
  amount_pos g _ _ _ := by
    cases kindOf g.2 with
    | none => exact Nat.one_pos
    | some k => exact amountK_pos k

instance ringRd_payload_storable (g : GSem nD τ sig) (r : ℕ) (d : Bool) :
    BI.Storable (upEmb : UEmb _ 𝕄) ((ringRd (F := F) m ρ).payload g r d) := by
  show BI.Storable upEmb ((kindOf g.2).elim iprop(emp) fun k => payK m ρ g.1.1 k r d)
  cases kindOf g.2 with
  | none => simp only [Option.elim]; infer_instance
  | some k => exact payK_storable m ρ g.1.1 k r d

theorem duties_k (c : Dev nD) (k : CK) (r : ℕ) : (ringRd (F := F) m ρ).duties ((c : Thread nD τ), csem k) r = dutiesK k r := by
  dsimp only [ringRd]; rw [kindOf_csem]; rfl
theorem amount_k (c : Dev nD) (k : CK) (r : ℕ) (d : Bool) : (ringRd (F := F) m ρ).amount ((c : Thread nD τ), csem k) r d = amountK k := by
  dsimp only [ringRd]; rw [kindOf_csem]; rfl
theorem payload_k (c : Dev nD) (k : CK) (r : ℕ) (d : Bool) :
    (ringRd (F := F) m ρ).payload ((c : Thread nD τ), csem k) r d = payK m ρ c k r d := by
  dsimp only [ringRd]; rw [kindOf_csem]; rfl

/-- A channel's cell has one duty in each of its rounds: the units it expects, -/
theorem expect_chan (c : Dev nD) (j : Fin 3) (d : Dir) (q : Fin 4) (r : ℕ) (h : dutiesK (some (j, d, q)) r = {false}) :
    (ringRd (F := F) m ρ).expect ((c : Thread nD τ), csem (some (j, d, q))) r = amountK (some (j, d, q)) := by
  unfold Schedule.expect Schedule.amountOf
  rw [duties_k, h, Finset.sum_singleton, amount_k]
/-- and what the wait for them hands over. -/
theorem rest_chan (c : Dev nD) (j : Fin 3) (d : Dir) (q : Fin 4) (r : ℕ) (h : dutiesK (some (j, d, q)) r = {false}) :
    bigSep ((ringRd (F := F) m ρ).duties ((c : Thread nD τ), csem (some (j, d, q))) r \ ∅)
        (fun e => (ringRd (F := F) m ρ).payload ((c : Thread nD τ), csem (some (j, d, q))) r e)
      = payK m ρ c (some (j, d, q)) r false := by
  rw [Finset.sdiff_empty, duties_k, h, bigSep_singleton, payload_k]

/-- The barrier's round. -/
theorem expect_bar (c : Dev nD) : (ringRd (F := F) m ρ).expect (barCell c) 0 = 2 := by
  show (ringRd (F := F) m ρ).expect ((c : Thread nD τ), csem none) 0 = 2
  unfold Schedule.expect Schedule.amountOf
  rw [duties_k, Finset.sum_congr rfl fun d _ => amount_k m ρ c none 0 d]
  rfl
theorem rest_bar (c : Dev nD) :
    bigSep ((ringRd (F := F) m ρ).duties (barCell c) 0 \ ∅) (fun d => (ringRd (F := F) m ρ).payload (barCell c) 0 d)
      = iprop(payK m ρ c none 0 false ∗ payK m ρ c none 0 true) := by
  show bigSep ((ringRd (F := F) m ρ).duties ((c : Thread nD τ), csem none) 0 \ ∅) (fun d => (ringRd (F := F) m ρ).payload ((c : Thread nD τ), csem none) 0 d) = _
  rw [Finset.sdiff_empty, duties_k, bigSep_congr (s := dutiesK none 0) (fun d _ => payload_k m ρ c none 0 d)]
  exact bigSep_univ_eq_bigSepL [false, true] (by decide) (by decide) (fun d => payK m ρ c none 0 d)

/-- No cell has a duty at round 7 or later, -/
theorem duties_seven (c : Dev nD) (k : CK) (r : ℕ) (hr : 7 ≤ r) : (ringRd (F := F) m ρ).duties ((c : Thread nD τ), csem k) r = ∅ := by
  rw [duties_k]; unfold dutiesK; split <;> exact if_neg (by omega)
/-- a notice's none at round 6, -/
theorem duties_six (c : Dev nD) (d : Dir) (q : Fin 4) (r : ℕ) (hr : 6 ≤ r) : (ringRd (F := F) m ρ).duties (credCell c d q) r = ∅ := by
  show (ringRd (F := F) m ρ).duties ((c : Thread nD τ), csem (some (2, d, q))) r = ∅
  rw [duties_k]; exact if_neg (by omega)
/-- the barrier's none after its one round. -/
theorem duties_one (c : Dev nD) (r : ℕ) (hr : 1 ≤ r) : (ringRd (F := F) m ρ).duties (barCell c) r = ∅ := by
  show (ringRd (F := F) m ρ).duties ((c : Thread nD τ), csem none) r = ∅
  rw [duties_k]; exact if_neg (by omega)

/-! ## Levels, and what a device owes

A cell's units are indexed by their round. A message of a round has the level of the part that sends it, a notice that of
the part that gives it, so that every part waits only below what is still owed. -/

/-- The part that computes (`ph = 0`) or sends (`ph = 1`) a step of a channel. -/
def posOf (d : Dir) (q : Fin 4) (s ph : ℕ) : ℕ := 16 * s + 4 * q.val + 2 * ph + (if d then 1 else 0)

def L (g : GSem nD τ sig) : Finset ℕ := if g.1.2 = .tc then Finset.range 8 else ∅
def lvK : CK → ℕ → ℕ
  | none, _ => 1
  | some (0, _), _ => 0
  | some (1, d, q), r => 2 + posOf d q r 1
  | some (2, d, q), r => 2 + posOf d q (r + 1) 0
def lv (g : GSem nD τ sig) (r : ℕ) : ℕ := (kindOf g.2).elim 0 fun k => lvK k r

theorem L_of_ne (g : GSem nD τ sig) (h : g.1.2 ≠ .tc) : L g = ∅ := if_neg h
theorem L_tc (c : Dev nD) (sm : SemLoc sig) : L ((c : Thread nD τ), sm) = Finset.range 8 := if_pos rfl
theorem lv_k (c : Dev nD) (k : CK) (r : ℕ) : lv ((c : Thread nD τ), csem k) r = lvK k r := by
  unfold lv; rw [kindOf_csem]; rfl

/-- What the computing part of a step pays — the notice for the buffer it freed —, -/
def compOwe (c : Dev nD) (d : Dir) (q : Fin 4) (s : ℕ) : CellTallies nD τ sig ℕ :=
  if s = 0 then 0 else if s = 7 then 0 else tallyAt (credCell (upsD d c) d q) (s - 1) 1
/-- and the sending part: the message. -/
def sendOwe (c : Dev nD) (d : Dir) (q : Fin 4) (s : ℕ) : CellTallies nD τ sig ℕ :=
  if s = 7 then 0 else tallyAt (recvCell (dstD d c) d q) s N
/-- What part `i` pays, -/
def partOwe (i : ℕ) (c : Dev nD) : CellTallies nD τ sig ℕ :=
  if i / 2 % 2 = 0 then compOwe c (dirOf i) (subOf i) (stepOf i).val else sendOwe c (dirOf i) (subOf i) (stepOf i).val
/-- what is owed before part `i`, -/
def owedAt (i : ℕ) (c : Dev nD) : CellTallies nD τ sig ℕ := ∑ j ∈ Finset.Ico i 128, partOwe j c
/-- and before the body: the two barrier signals too. -/
def O₁ (c : Dev nD) : CellTallies nD τ sig ℕ := owedAt 0 c + tallyAt (barCell (upsD true c)) 0 1
def O₀ (c : Dev nD) : CellTallies nD τ sig ℕ := O₁ c + tallyAt (barCell (upsD false c)) 0 1

/-- The parts from `i` on are `i` and those after it. -/
theorem parts_peel (i : ℕ) (h : i < 128) : Finset.Ico i 128 = insert i (Finset.Ico (i + 1) 128) := by
  ext j; simp only [Finset.mem_Ico, Finset.mem_insert]; omega
theorem parts_notMem (i : ℕ) : i ∉ Finset.Ico (i + 1) 128 := fun h => absurd (Finset.mem_Ico.mp h).1 (by omega)

theorem owedAt_step (i : ℕ) (h : i < 128) (c : Dev nD) : owedAt i c = owedAt (i + 1) c + partOwe i c := by
  unfold owedAt
  rw [parts_peel i h, Finset.sum_insert (parts_notMem i), add_comm]
theorem owedAt_end (c : Dev nD) : owedAt 128 c = 0 := by
  unfold owedAt; rw [Finset.Ico_self, Finset.sum_empty]

theorem posOf_dirs (i : ℕ) (h : i < 128) : posOf (dirOf i) (subOf i) (stepOf i).val (i / 2 % 2) = i := by
  unfold posOf dirOf subOf stepOf
  simp only [decide_eq_true_eq]
  split <;> omega

/-- What part `i` pays goes to a cell of level `2 + i`. -/
theorem partOwe_pos {i : ℕ} (h : i < 128) {c : Dev nD} {g : GSem nD τ sig} {r : ℕ} (hp : 0 < partOwe i c g r) : r ∈ L g ∧ lv g r = 2 + i := by
  have hi := posOf_dirs i h
  have hs := (stepOf i).isLt
  unfold partOwe at hp
  split at hp
  · rename_i h0
    unfold compOwe at hp
    rw [h0] at hi
    split at hp
    · exact absurd hp (Nat.lt_irrefl 0)
    split at hp
    · exact absurd hp (Nat.lt_irrefl 0)
    rename_i h1 h2
    obtain ⟨rfl, rfl⟩ := Pipeline.tallyAt_pos hp
    refine ⟨by rw [L_tc]; exact Finset.mem_range.mpr (by omega), ?_⟩
    rw [show credCell (upsD (dirOf i) c) (dirOf i) (subOf i) = (((upsD (dirOf i) c : Dev nD) : Thread nD τ), csem (some (2, dirOf i, subOf i))) from rfl, lv_k]
    show 2 + posOf _ _ ((stepOf i).val - 1 + 1) 0 = _
    rw [Nat.sub_add_cancel (by omega), hi]
  · rename_i h0
    have h0' : i / 2 % 2 = 1 := by omega
    unfold sendOwe at hp
    rw [h0'] at hi
    split at hp
    · exact absurd hp (Nat.lt_irrefl 0)
    rename_i h1
    obtain ⟨rfl, rfl⟩ := Pipeline.tallyAt_pos hp
    refine ⟨by rw [L_tc]; exact Finset.mem_range.mpr (by omega), ?_⟩
    rw [show recvCell (dstD (dirOf i) c) (dirOf i) (subOf i) = (((dstD (dirOf i) c : Dev nD) : Thread nD τ), csem (some (1, dirOf i, subOf i))) from rfl, lv_k]
    show 2 + posOf _ _ _ 1 = _
    rw [hi]

theorem owedAt_pos {i : ℕ} {c : Dev nD} {g : GSem nD τ sig} {r : ℕ} (hp : 0 < owedAt i c g r) : r ∈ L g ∧ 2 + i ≤ lv g r := by
  unfold owedAt at hp
  obtain ⟨j, hj, hp⟩ := Pipeline.sum_pos_exists hp
  obtain ⟨h1, h2⟩ := Finset.mem_Ico.mp hj
  obtain ⟨h3, h4⟩ := partOwe_pos h2 hp
  exact ⟨h3, by omega⟩

theorem bar_pos {c c' : Dev nD} {g : GSem nD τ sig} {r : ℕ} (hp : 0 < tallyAt (barCell c') 0 1 g r) : r ∈ L g ∧ 1 ≤ lv g r := by
  obtain ⟨rfl, rfl⟩ := Pipeline.tallyAt_pos hp
  refine ⟨by rw [L_tc]; exact Finset.mem_range.mpr (by omega), ?_⟩
  rw [show barCell c' = ((c' : Thread nD τ), csem none) from rfl, lv_k]
  exact Nat.le_refl 1

theorem O₀_pos {c : Dev nD} {g : GSem nD τ sig} {r : ℕ} (hp : 0 < O₀ c g r) : r ∈ L g ∧ 1 ≤ lv g r := by
  unfold O₀ O₁ at hp
  rcases Pipeline.add_pos_cases hp with hp | hp
  · rcases Pipeline.add_pos_cases hp with hp | hp
    · obtain ⟨h1, h2⟩ := owedAt_pos hp; exact ⟨h1, by omega⟩
    · exact bar_pos (c := c) hp
  · exact bar_pos (c := c) hp

/-- A wait of a cell whose level is below `2 + i` may be made when part `i` and the later ones are still to be paid. -/
theorem mayWait_at (c : Dev nD) (k : CK) (r i : ℕ) (hr : r < 8) (h : lvK k r < 2 + i) :
    (levAts L lv : sProp 𝕄) ⊢ MayWait (c : Thread nD τ) (csem k) r (owedAt i c) :=
  Pipeline.mayWait_of_levAts (by rw [L_tc]; exact Finset.mem_range.mpr hr) fun g r' hp => by
    obtain ⟨h1, h2⟩ := owedAt_pos hp
    exact ⟨h1, by rw [lv_k]; omega⟩

/-- The staging buffers' waits, before anything is paid and after everything is. -/
theorem mayWait_stage (c : Dev nD) (q : DmaSem sig) (hq : ∀ k, csem k ≠ .dma q) (O : CellTallies nD τ sig ℕ) (hO : O = O₀ c ∨ O = 0) :
    (levAts L lv : sProp 𝕄) ⊢ MayWait (c : Thread nD τ) (.dma q) 0 O := by
  rcases hO with rfl | rfl
  · refine Pipeline.mayWait_of_levAts (by rw [L_tc]; exact Finset.mem_range.mpr (by omega)) fun g r' hp => ?_
    obtain ⟨h1, h2⟩ := O₀_pos hp
    refine ⟨h1, ?_⟩
    have : lv ((c : Thread nD τ), .dma q) 0 = 0 := by unfold lv; rw [kindOf_stage q hq]; rfl
    omega
  · rw [MayWait_zero]; iintro -; iempintro

end Cert.KernelIdeal

end
-- ==== Proof.Parts.lean ====
/-
# `01_k` — the parts of the body

Each part of the body — the computing and the sending of one step of one channel — proved once, at a symbolic device,
direction, sub-block and step, from the channel's state before it to its state after it.
-/
module

public import proofs.«01_k».proof.Proof.Sched

@[expose] public section

set_option maxRecDepth 16384

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig ℕ (Elt F) ℕ UU ℕ

variable (m : (ℓ : Loc nD τ sig) → Buf (Elt F) ℓ) (ρ : Dev nD → PrngReg)

abbrev 𝒱₀ : Variants := Variants.none

/-! ## What the payments hand over, kind by kind -/

section Pay
variable (b : Dev nD) (d : Dir) (q : Fin 4) (r : ℕ) (t : Bool)
theorem payK_bar : payK (F := F) m ρ b none r d = bigSep Finset.univ fun q : Fin 4 => slotAny (rbufM d) (dstD d b) q := rfl
theorem payK_send : payK (F := F) m ρ b (some (0, d, q)) r t = slotAny (accM d) b q := rfl
theorem payK_recv : payK (F := F) m ρ b (some (1, d, q)) r t
    = iprop(slotHas (rbufM d) b q (val m ρ d q r (upsD d b)) ∗ reached ER (credCell (upsD d b) d q) r) := rfl
theorem payK_cred : payK (F := F) m ρ b (some (2, d, q)) r t
    = iprop(slotAny (rbufM d) (dstD d b) q ∗ reached ER (recvCell (dstD d b) d q) (r + 1)) := rfl
end Pay

/-! ## Reading and writing a slot -/

section Slot
variable (M M' : Memref sig .tc .vmem S4x512x1024 .i32) (q : Fin 4)

omit [FloatOps F] in
theorem slot_set : (slotM M q).view.set = (M.access (slotR q)).set := View.set_reshape _ _

omit [FloatOps F] in
theorem slot_load : M.view.setOn (slotR q).toLoadRect.set ⊆ (slotM M q).view.set := by
  rw [slot_set, show (M.access (slotR q)).set = M.view.setOn (slotR q).set from View.set_slice _ _]

omit [FloatOps F] in
theorem slot_store : (M.access (slotR q)).setOn Finset.univ ⊆ (slotM M q).view.set := by
  rw [slot_set]; exact Finset.Subset.refl _

omit [FloatOps F] in
/-- A slot stored reads as what was stored. -/
theorem readSlot_store (f : M.view.ty.Contents (Elt F)) (w : Vec F S1x512x1024 .i32) :
    readSlot M q ((M.access (slotR q)).write (Elt F) f w Finset.univ) = w := by
  show (M.access (slotR q)).read (Elt F) _ = w
  exact View.read_write_univ _ _

omit [FloatOps F] in
/-- A slot transferred reads as its source did. -/
theorem readSlot_transfer (f : M.view.ty.Contents (Elt F)) (f' : M'.view.ty.Contents (Elt F)) :
    readSlot M q ((slotM M q).view.write (Elt F) f ((slotM M' q).view.read (Elt F) f') Finset.univ) = readSlot M' q f' := by
  have h : (slotM M q).view.read (Elt F) ((slotM M q).view.write (Elt F) f ((slotM M' q).view.read (Elt F) f') Finset.univ)
      = (slotM M' q).view.read (Elt F) f' := View.read_write_univ _ _
  have l : ∀ (A : Memref sig .tc .vmem S4x512x1024 .i32) (g : A.view.ty.Contents (Elt F)),
      (slotM A q).view.read (Elt F) g = shapeCast S512x1024 (readSlot A q g) (show S1x512x1024.ShapeCasts S512x1024 by decide) :=
    fun _ _ => rfl
  rw [l M, l M' f'] at h
  have h' := congrArg (fun v => shapeCast S1x512x1024 v (show S512x1024.ShapeCasts S1x512x1024 by decide)) h
  dsimp only at h'
  rw [shapeCast_shapeCast, shapeCast_shapeCast] at h'
  exact h'

end Slot

/-! ## Channel states -/

section States
variable (c : Dev nD) (d : Dir) (q : Fin 4)

/-- The rounds a device is at of a channel's three cells. -/
def posC (a b e : ℕ) : sProp 𝕄 :=
  iprop(atPos ER (sendCell c d q) a ∅ 0 ∗ atPos ER (recvCell c d q) b ∅ 0 ∗ atPos ER (credCell c d q) e ∅ 0)

/-- A device may send message `s`: it holds the receiver's slot, and the rounds stand at `s`. -/
def ready (s : ℕ) : sProp 𝕄 :=
  iprop(slotAny (rbufM d) (dstD d c) q ∗ reached ER (recvCell (dstD d c) d q) s ∗ reached ER (credCell c d q) s ∗ reached ER (sendCell c d q) s
    ∗ posC c d q s s s)

/-- A channel before the computing part of step `s`: at first it may send; later the message before is in flight. -/
def stA : ℕ → sProp 𝕄
  | 0 => iprop(slotAny (accM d) c q ∗ ready c d q 0)
  | s + 1 => iprop(cred (tallyAt (sendCell c d q) s N) ∗ posC c d q s s s)

/-- A channel done: both slots are the device's own. -/
def stFin : sProp 𝕄 := iprop(slotAny (accM d) c q ∗ slotAny (rbufM d) c q ∗ posC c d q 7 7 6)

/-- A channel before the sending part of step `s`: the partial sum is in place. -/
def stB : ℕ → sProp 𝕄
  | 0 => iprop(slotHas (accM d) c q (val m ρ d q 0 c) ∗ ready c d q 0)
  | s + 1 => if s = 6 then stFin c d q else
      iprop(slotHas (accM d) c q (val m ρ d q (s + 1) c) ∗ reached ER (sendCell c d q) (s + 1) ∗ posC c d q (s + 1) (s + 1) s)

/-- The tokens the computing part of step `s` uses: for the message's arrival, and to pay the notice; -/
def compRes : ℕ → sProp 𝕄
  | 0 => iprop(emp)
  | s + 1 => iprop(cred (tallyAt (recvCell c d q) s N) ∗ if s = 6 then iprop(emp) else dutyTok ER (credCell (upsD d c) d q) s false)
/-- and the sending part: to pay the source's cell and the destination's, and for the notice. -/
def sendRes (s : ℕ) : sProp 𝕄 :=
  if s = 7 then iprop(emp) else
    iprop(dutyTok ER (sendCell c d q) s false ∗ dutyTok ER (recvCell (dstD d c) d q) s false
      ∗ if s = 0 then iprop(emp) else cred (tallyAt (credCell c d q) (s - 1) 1))

theorem stA_zero : stA (F := F) c d q 0 = iprop(slotAny (accM d) c q ∗ ready c d q 0) := rfl
theorem stA_succ (s : ℕ) : stA (F := F) c d q (s + 1) = iprop(cred (tallyAt (sendCell c d q) s N) ∗ posC c d q s s s) := rfl
theorem stB_zero : stB m ρ c d q 0 = iprop(slotHas (accM d) c q (val m ρ d q 0 c) ∗ ready c d q 0) := rfl
theorem stB_succ (s : ℕ) : stB m ρ c d q (s + 1) = if s = 6 then stFin c d q else
    iprop(slotHas (accM d) c q (val m ρ d q (s + 1) c) ∗ reached ER (sendCell c d q) (s + 1) ∗ posC c d q (s + 1) (s + 1) s) := rfl
theorem stB_last : stB m ρ c d q 7 = stFin c d q := (stB_succ m ρ c d q 6).trans (if_pos rfl)
theorem stB_mid (s : ℕ) (h : s ≠ 6) : stB m ρ c d q (s + 1)
    = iprop(slotHas (accM d) c q (val m ρ d q (s + 1) c) ∗ reached ER (sendCell c d q) (s + 1) ∗ posC c d q (s + 1) (s + 1) s) := if_neg h
theorem compRes_last : compRes (F := F) c d q 7 = iprop(cred (tallyAt (recvCell c d q) 6 N) ∗ emp) :=
  congrArg (fun e => iprop(cred (tallyAt (recvCell c d q) 6 N) ∗ e)) (if_pos rfl)
theorem compRes_mid (s : ℕ) (h : s ≠ 6) : compRes (F := F) c d q (s + 1)
    = iprop(cred (tallyAt (recvCell c d q) s N) ∗ dutyTok ER (credCell (upsD d c) d q) s false) :=
  congrArg (fun e => iprop(cred (tallyAt (recvCell c d q) s N) ∗ e)) (if_neg h)

/-- The staging buffers of `x` and `w`. -/
def xwPts : sProp 𝕄 :=
  iprop((((c : Thread nD τ).loc cc0_stg0_0) ↦{fullShare} xstg m ρ c) ∗ (((c : Thread nD τ).loc cc0_stg1_0) ↦{fullShare} wstg m ρ c))
abbrev outPts (f : Buf (Elt F) ((c : Thread nD τ).loc cc0_stg4_0)) : sProp 𝕄 := ((c : Thread nD τ).loc cc0_stg4_0) ↦{fullShare} f

end States

/-- The invariants of all cells under the names `K`, their first rounds reached, and the levels. -/
def ctx (K : Dev nD × CK → ℕ) : sProp 𝕄 :=
  iprop((bigSep Finset.univ fun ck : Dev nD × CK => cellInv ER (ringRd m ρ) (K ck) (kcell ck))
    ∗ (bigSep Finset.univ fun ck : Dev nD × CK => reached ER (kcell ck) 0) ∗ levAts L lv)

instance ctx_persistent (K : Dev nD × CK → ℕ) : BI.Persistent (ctx m ρ K) := by unfold ctx; infer_instance

variable (K : Dev nD × CK → ℕ)

theorem ctx_inv (ck : Dev nD × CK) : ctx m ρ K ⊢ cellInv ER (ringRd m ρ) (K ck) (kcell ck) := by
  unfold ctx
  iintro ⟨H, -, -⟩
  iapply (show _ ⊢ cellInv ER (ringRd m ρ) (K ck) (kcell ck) from BI.bigSep_elim (Φ := fun ck : Dev nD × CK => cellInv ER (ringRd m ρ) (K ck) (kcell ck)) (Finset.mem_univ ck))
  iexact H
theorem ctx_reached (ck : Dev nD × CK) : ctx m ρ K ⊢ reached ER (kcell ck) 0 := by
  unfold ctx
  iintro ⟨-, H, -⟩
  iapply (show _ ⊢ reached ER (kcell ck) 0 from BI.bigSep_elim (Φ := fun ck : Dev nD × CK => reached ER (kcell ck) 0) (Finset.mem_univ ck))
  iexact H
theorem ctx_lev : ctx m ρ K ⊢ levAts L lv := by
  unfold ctx
  iintro ⟨-, -, H⟩
  iexact H

/-! ## The operations -/

section Ops
/-- What the program that continues is to end with. -/
abbrev Post (F : FTy → Type) [FloatOps F] := PUnit.{1} → sProp (MT nD τ sig ℕ (Elt F) ℕ UU ℕ)

variable (c : Dev nD) (d : Dir) (q : Fin 4) {k : KProg F} {Q : Post F}

/-- The program `k` on device `c` runs and ends with `Q`. -/
abbrev runs (k : KProg F) (Q : PUnit.{1} → sProp 𝕄) : sProp 𝕄 :=
  wp frame (wpE (defs₀ (F := F)) 𝒱₀ (c : Thread nD τ) none) Set.univ k Q

/-- What a device owes before part `i`, whatever it has waited for. -/
def owesAt' (i : ℕ) : sProp 𝕄 := iprop(∃ W, owes (c : Thread nD τ) (owedAt i c) W)

/-- The wait for an outgoing message's source: the slot back. -/
theorem wp_waitSend (r i : ℕ) (hr : r < 7) :
    iprop(ctx m ρ K ∗ cred (tallyAt (sendCell c d q) r N) ∗ owesAt' c i ∗ atPos ER (sendCell c d q) r ∅ 0)
      ⊢ iprop(((owesAt' c i ∗ atPos ER (sendCell c d q) (r + 1) ∅ 0 ∗ reached ER (sendCell c d q) (r + 1) ∗ slotAny (accM d) c q) -∗ runs c k Q)
          -∗ runs c (waitSendK d q k) Q) := by
  have hd : dutiesK (some (0, d, q)) r = {false} := if_pos hr
  unfold owesAt'
  iintro ⟨#Hc, Hcr, ⟨%W, HO⟩, Hat⟩ Hk
  unfold waitSendK
  iapply (Rounds.wp_wait_rest_token 𝒱₀ ER (ringRd m ρ) (c : Thread nD τ) none (κ := K (c, some (0, d, q)))
      (wpE_waitDma2_eq 𝒱₀ (c : Thread nD τ) none Set.univ) (Set.mem_univ _) r (O := owedAt i c) (W := W) (R := r) (m := 0) (T := ∅)
      (by rw [Nat.zero_add]; exact (credit_eq' d q).trans (expect_chan m ρ c 0 d q r hd).symm)) $$ [Hcr HO Hat]
  · isplitr; · iapply (ctx_inv m ρ K (c, some (0, d, q))); iexact Hc
    isplitl [Hcr]; · rw [credit_eq' d q]; iexact Hcr
    isplitl [HO]; · iexact HO
    isplitr
    · iapply (mayWait_at c (some (0, d, q)) r i (by omega) (by show 0 < 2 + i; omega)); iapply (ctx_lev m ρ K); iexact Hc
    iexact Hat
  iintro ⟨HO, Hat, #Hr, Hpay⟩
  ihave Hp := (Entails.of_eq ((rest_chan m ρ c 0 d q r hd).trans (payK_send m ρ c d q r false))) $$ Hpay
  iapply Hk
  isplitl [HO]; · iexists _; iexact HO
  isplitl [Hat]; · iexact Hat
  isplitr; · iexact Hr
  iexact Hp

/-- The wait for a message's arrival: the message, and that its sender has had its notices. -/
theorem wp_waitRecv (r i : ℕ) (hr : r < 7) (hi : posOf d q r 1 < i) :
    iprop(ctx m ρ K ∗ cred (tallyAt (recvCell c d q) r N) ∗ owesAt' c i ∗ atPos ER (recvCell c d q) r ∅ 0)
      ⊢ iprop(((owesAt' c i ∗ atPos ER (recvCell c d q) (r + 1) ∅ 0 ∗ reached ER (recvCell c d q) (r + 1)
            ∗ slotHas (rbufM d) c q (val m ρ d q r (upsD d c)) ∗ reached ER (credCell (upsD d c) d q) r) -∗ runs c k Q)
          -∗ runs c (waitRecvK d q k) Q) := by
  have hd : dutiesK (some (1, d, q)) r = {false} := if_pos hr
  unfold owesAt'
  iintro ⟨#Hc, Hcr, ⟨%W, HO⟩, Hat⟩ Hk
  unfold waitRecvK
  iapply (Rounds.wp_wait_rest_token 𝒱₀ ER (ringRd m ρ) (c : Thread nD τ) none (κ := K (c, some (1, d, q)))
      (wpE_waitDma2_eq 𝒱₀ (c : Thread nD τ) none Set.univ) (Set.mem_univ _) r (O := owedAt i c) (W := W) (R := r) (m := 0) (T := ∅)
      (by rw [Nat.zero_add]; exact (credit_eq d q).trans (expect_chan m ρ c 1 d q r hd).symm)) $$ [Hcr HO Hat]
  · isplitr; · iapply (ctx_inv m ρ K (c, some (1, d, q))); iexact Hc
    isplitl [Hcr]; · rw [credit_eq d q]; iexact Hcr
    isplitl [HO]; · iexact HO
    isplitr
    · iapply (mayWait_at c (some (1, d, q)) r i (by omega) (by show 2 + posOf d q r 1 < 2 + i; omega)); iapply (ctx_lev m ρ K); iexact Hc
    iexact Hat
  iintro ⟨HO, Hat, #Hr, Hpay⟩
  ihave Hp := (Entails.of_eq ((rest_chan m ρ c 1 d q r hd).trans (payK_recv m ρ c d q r false))) $$ Hpay
  iapply Hk
  isplitl [HO]; · iexists _; iexact HO
  isplitl [Hat]; · iexact Hat
  isplitr; · iexact Hr
  iexact Hp

/-- The wait for the receiver's notice: its slot, and that it awaits the next message. -/
theorem wp_waitCred (r i : ℕ) (hr : r < 6) (hi : posOf d q (r + 1) 0 < i) :
    iprop(ctx m ρ K ∗ cred (tallyAt (credCell c d q) r 1) ∗ owesAt' c i ∗ atPos ER (credCell c d q) r ∅ 0)
      ⊢ iprop(((owesAt' c i ∗ atPos ER (credCell c d q) (r + 1) ∅ 0 ∗ reached ER (credCell c d q) (r + 1)
            ∗ slotAny (rbufM d) (dstD d c) q ∗ reached ER (recvCell (dstD d c) d q) (r + 1)) -∗ runs c k Q)
          -∗ runs c (Prog.op (.semWait (credS d q) (1#32 : BitVec 32).toInt) fun _ => k) Q) := by
  have hd : dutiesK (some (2, d, q)) r = {false} := if_pos hr
  unfold owesAt'
  iintro ⟨#Hc, Hcr, ⟨%W, HO⟩, Hat⟩ Hk
  iapply (Rounds.wp_wait_rest_token 𝒱₀ ER (ringRd m ρ) (c : Thread nD τ) none (κ := K (c, some (2, d, q)))
      (wpE_semWait_eq 𝒱₀ (c : Thread nD τ) none Set.univ) (Set.mem_univ _) r (O := owedAt i c) (W := W) (R := r) (m := 0) (T := ∅)
      (by rw [Nat.zero_add]; exact (show _ = 1 by decide).trans (expect_chan m ρ c 2 d q r hd).symm)) $$ [Hcr HO Hat]
  · isplitr; · iapply (ctx_inv m ρ K (c, some (2, d, q))); iexact Hc
    isplitl [Hcr]; · iexact Hcr
    isplitl [HO]; · iexact HO
    isplitr
    · iapply (mayWait_at c (some (2, d, q)) r i (by omega) (by show 2 + posOf d q (r + 1) 0 < 2 + i; omega)); iapply (ctx_lev m ρ K); iexact Hc
    iexact Hat
  iintro ⟨HO, Hat, #Hr, Hpay⟩
  ihave Hp := (Entails.of_eq ((rest_chan m ρ c 2 d q r hd).trans (payK_cred m ρ c d q r false))) $$ Hpay
  iapply Hk
  isplitl [HO]; · iexists _; iexact HO
  isplitl [Hat]; · iexact Hat
  isplitr; · iexact Hr
  iexact Hp

/-- The notice to the sender that its next message may come: the receiving slot handed over. -/
theorem wp_giveCred (r i : ℕ) (hr : r < 6) (hO : owedAt i c = owedAt (i + 1) c + tallyAt (credCell (upsD d c) d q) r 1) :
    iprop(ctx m ρ K ∗ owesAt' c i ∗ dutyTok ER (credCell (upsD d c) d q) r false ∗ reached ER (credCell (upsD d c) d q) r
        ∗ slotAny (rbufM d) c q ∗ reached ER (recvCell c d q) (r + 1))
      ⊢ iprop((owesAt' c (i + 1) -∗ runs c k Q)
          -∗ runs c (Prog.op (.semSignal (Dev.tc (upsD d c)) (credS d q) (1#32 : BitVec 32).toInt) fun _ => k) Q) := by
  have hd : dutiesK (some (2, d, q)) r = {false} := if_pos hr
  unfold owesAt'
  iintro ⟨#Hc, ⟨%W, HO⟩, Ht, #Hr, Hs, #Hv⟩ Hk
  iapply (Rounds.wp_signal 𝒱₀ ER (ringRd m ρ) (c : Thread nD τ) none (dst := (upsD d c : Thread nD τ)) (κ := K (upsD d c, some (2, d, q)))
      (r := r) (d := false) (by rw [show ((upsD d c : Thread nD τ), SemLoc.reg (credS d q)) = ((upsD d c : Thread nD τ), csem (some (2, d, q))) from rfl, duties_k, hd]; exact Finset.mem_singleton_self _)
      ((amount_k m ρ (upsD d c) (some (2, d, q)) r false).trans (show amountK (some (2, d, q)) = _ from rfl)) r (owedAt (i + 1) c) hO) $$ [HO Ht Hs]
  · isplitr; · iapply (ctx_inv m ρ K (upsD d c, some (2, d, q))); iexact Hc
    isplitl [HO]; · iexact HO
    isplitl [Ht]; · iexact Ht
    isplitl [Hs]
    · iapply (Entails.of_eq ((payload_k m ρ (upsD d c) (some (2, d, q)) r false).trans (payK_cred m ρ (upsD d c) d q r false)).symm)
      rw [dst_ups]
      isplitl [Hs]; · iexact Hs
      iexact Hv
    iexact Hr
  iintro HO
  iapply Hk
  iexists _; iexact HO

/-- The transfer of message `s`. -/
theorem wp_sendAcc (s i : ℕ) (hs : s < 7) (hO : owedAt i c = owedAt (i + 1) c + tallyAt (recvCell (dstD d c) d q) s N) :
    iprop(ctx m ρ K ∗ owesAt' c i ∗ slotHas (accM d) c q (val m ρ d q s c) ∗ ready c d q s
        ∗ dutyTok ER (sendCell c d q) s false ∗ dutyTok ER (recvCell (dstD d c) d q) s false)
      ⊢ iprop(((owesAt' c (i + 1) ∗ stA c d q (s + 1)) -∗ runs c k Q) -∗ runs c (sendAccK c d q k) Q) := by
  have hd₁ : dutiesK (some (0, d, q)) s = {false} := if_pos hs
  have hd₂ : dutiesK (some (1, d, q)) s = {false} := if_pos hs
  unfold owesAt' ready slotHas slotAny
  iintro ⟨#Hc, ⟨%W, HO⟩, ⟨%fs, %hfs, Ha⟩, ⟨⟨%fd, Hb⟩, #HrV, #HrC, #HrS, Hpos⟩, HtS, HtV⟩ Hk
  unfold sendAccK
  iapply (Rounds.wp_send_pointsTo_with 𝒱₀ ER (ringRd m ρ) (c : Thread nD τ) none (κ₁ := K (c, some (0, d, q))) (κ₂ := K (dstD d c, some (1, d, q)))
      (c' := (dstD d c : Thread nD τ)) (src := slotM (accM d) q) (dst := slotM (rbufM d) q) (sS := .dma (sendS d q)) (sem := .dma (recvS d q)) (r₁ := s) (r₂ := s) (d₁ := false) (d₂ := false) (fs := fs) (fd := fd) (q := fullShare) (F := reached ER (credCell c d q) s)
      (by rw [show ((c : Thread nD τ), SemLoc.dma (sendS d q)) = ((c : Thread nD τ), csem (some (0, d, q))) from rfl, duties_k, hd₁]; exact Finset.mem_singleton_self _)
      (by rw [show ((dstD d c : Thread nD τ), SemLoc.dma (recvS d q)) = ((dstD d c : Thread nD τ), csem (some (1, d, q))) from rfl, duties_k, hd₂]; exact Finset.mem_singleton_self _)
      s s N (credit_eq d q) (amount_k m ρ c (some (0, d, q)) s false) (amount_k m ρ (dstD d c) (some (1, d, q)) s false) (owedAt (i + 1) c) hO (W := W)
      (by
        refine BI.Entails.trans ?_ (Entails.of_eq ((payload_k m ρ c (some (0, d, q)) s false).trans (payK_send m ρ c d q s false)).symm)
        show _ ⊢ slotAny (accM d) c q
        unfold slotAny
        iintro H; iexists fs; iexact H)
      (by
        refine BI.Entails.trans ?_ (Entails.of_eq ((payload_k m ρ (dstD d c) (some (1, d, q)) s false).trans (payK_recv m ρ (dstD d c) d q s false)).symm)
        rw [ups_dst]
        show _ ⊢ iprop(slotHas (rbufM d) (dstD d c) q (val m ρ d q s c) ∗ reached ER (credCell c d q) s)
        unfold slotHas
        iintro ⟨H, #Hr⟩
        isplitl [H]
        · iexists _
          isplitr
          · ipureintro; exact (readSlot_transfer (rbufM d) (accM d) q fd fs).trans hfs
          iexact H
        iexact Hr)) $$ [HO Ha Hb HtS HtV]
  · isplitr; · iapply (ctx_inv m ρ K (c, some (0, d, q))); iexact Hc
    isplitr; · iapply (ctx_inv m ρ K (dstD d c, some (1, d, q))); iexact Hc
    isplitl [Ha]; · iexact Ha
    isplitl [Hb]
    · isplitl [Hb]; · iexact Hb
      iexact HrC
    isplitl [HO]; · iexact HO
    isplitl [HtS]; · iexact HtS
    isplitr; · iexact HrS
    isplitl [HtV]; · iexact HtV
    iexact HrV
  iintro ⟨Hcr, HO⟩
  iapply Hk
  isplitl [HO]; · iexists _; iexact HO
  rw [stA_succ]
  isplitl [Hcr]; · iexact Hcr
  iexact Hpos

/-- The loads of a step's blocks. -/
theorem wp_loadXW (s : Fin 8) {kk : Vec F S512x512 .i8 → Vec F S512x1024 .i8 → KProg F} :
    xwPts m ρ c ⊢ iprop((xwPts m ρ c -∗ runs c (kk (xBlk m ρ d s c) (wBlk m ρ d q c)) Q) -∗ runs c (loadXWK c d q s kk) Q) := by
  unfold xwPts loadXWK
  iintro ⟨Hx, Hw⟩ Hk
  iapply (wp_load 𝒱₀ (c : Thread nD τ) none Set.univ (m := stgX) (Finset.subset_univ _)) $$ Hx; iintro Hx
  iapply (wp_load 𝒱₀ (c : Thread nD τ) none Set.univ (m := stgW) (Finset.subset_univ _)) $$ Hw; iintro Hw
  iapply Hk
  isplitl [Hx]; · iexact Hx
  iexact Hw

/-- The load of a slot. -/
theorem wp_loadSlot (M : Memref sig .tc .vmem S4x512x1024 .i32) (v : Vec F S1x512x1024 .i32) {kk : Vec F S1x512x1024 .i32 → KProg F} :
    slotHas M c q v ⊢ iprop((slotHas M c q v -∗ runs c (kk v) Q) -∗ runs c (loadSlotK M q kk) Q) := by
  unfold slotHas loadSlotK
  iintro ⟨%f, %hf, H⟩ Hk
  iapply (wp_load 𝒱₀ (c : Thread nD τ) none Set.univ (m := M) (slot_load M q)) $$ H; iintro H
  rw [show M.view.readAt (Elt F) (slotR q).toLoadRect f = v from hf]
  iapply Hk
  iexists f
  isplitr; · ipureintro; exact hf
  iexact H

/-- The store of a partial sum. -/
theorem wp_storeAcc (v : Vec F S1x512x1024 .i32) :
    slotAny (accM d) c q ⊢ iprop((slotHas (accM d) c q v -∗ runs c k Q) -∗ runs c (storeAccK d q v k) Q) := by
  unfold slotHas slotAny storeAccK loadSlotK
  iintro ⟨%f, H⟩ Hk
  iapply (wp_load 𝒱₀ (c : Thread nD τ) none Set.univ (m := accM d) (slot_load (accM d) q)) $$ H; iintro H
  iapply (wp_store 𝒱₀ (c : Thread nD τ) none Set.univ (m := accM d) (r := slotR q) (Mk := Finset.univ) (slot_store (accM d) q)) $$ H; iintro H
  iapply Hk
  iexists _
  isplitr; · ipureintro; exact readSlot_store (accM d) q f v
  iexact H

/-- The store of a channel's columns of the result. -/
theorem wp_storeOut (v : FVec F S512x1024 .f32) (f : (cc0_stg4_0 : Ref sig .tc).ty.Contents (Elt F)) :
    outPts c f ⊢ iprop((outPts c ((stgO.access (colR d q)).write (Elt F) f v Finset.univ) -∗ runs c k Q) -∗ runs c (storeOutK d q v k) Q) := by
  unfold storeOutK
  iintro H Hk
  iapply (wp_load 𝒱₀ (c : Thread nD τ) none Set.univ (m := stgO) (Finset.subset_univ _)) $$ H; iintro H
  iapply (wp_store 𝒱₀ (c : Thread nD τ) none Set.univ (m := stgO) (r := colR d q) (Mk := Finset.univ) (Finset.subset_univ _)) $$ H; iintro H
  iapply Hk
  iexact H

/-! ## The parts -/

/-- The computing part of the first step. -/
theorem wp_comp0 :
    iprop(xwPts m ρ c ∗ stA c d q 0)
      ⊢ iprop(((xwPts m ρ c ∗ stB m ρ c d q 0) -∗ runs c k Q) -∗ runs c (comp0K c d q 0 k) Q) := by
  rw [stA_zero, stB_zero]
  unfold comp0K
  iintro ⟨Hx, Ha, Hr⟩ Hk
  iapply (wp_loadXW m ρ c d q 0) $$ Hx; iintro Hx
  iapply (wp_storeAcc c d q _) $$ Ha; iintro Ha
  iapply Hk
  isplitl [Hx]; · iexact Hx
  isplitl [Ha]; · unfold val; iexact Ha
  iexact Hr

/-- What the last and the middle steps begin with. -/
theorem wp_compRecv (s : Fin 8) (r i : ℕ) (hr : s.val = r + 1) (hi : posOf d q s.val 0 = i)
    {kk : Vec F S512x512 .i8 → Vec F S512x1024 .i8 → Vec F S1x512x1024 .i32 → KProg F} :
    iprop(ctx m ρ K ∗ owesAt' c i ∗ xwPts m ρ c ∗ stA c d q (r + 1) ∗ cred (tallyAt (recvCell c d q) r N))
      ⊢ iprop(((owesAt' c i ∗ xwPts m ρ c ∗ slotAny (accM d) c q ∗ slotAny (rbufM d) c q ∗ posC c d q (r + 1) (r + 1) r
            ∗ reached ER (sendCell c d q) (r + 1) ∗ reached ER (recvCell c d q) (r + 1) ∗ reached ER (credCell (upsD d c) d q) r)
            -∗ runs c (kk (xBlk m ρ d s c) (wBlk m ρ d q c) (val m ρ d q r (upsD d c))) Q)
          -∗ runs c (waitSendK d q <| loadXWK c d q s fun x w => waitRecvK d q <| loadSlotK (rbufM d) q fun v => kk x w v) Q) := by
  have hs := s.isLt
  rw [stA_succ]
  unfold posC
  iintro ⟨#Hc, HO, Hx, ⟨Hcs, HpS, HpV, HpC⟩, Hcv⟩ Hk
  iapply (wp_waitSend m ρ K c d q r i (by omega)) $$ [Hcs HO HpS]
  · isplitr; · iexact Hc
    isplitl [Hcs]; · iexact Hcs
    isplitl [HO]; · iexact HO
    iexact HpS
  iintro ⟨HO, HpS, #HrS, Ha⟩
  iapply (wp_loadXW m ρ c d q s) $$ Hx; iintro Hx
  iapply (wp_waitRecv m ρ K c d q r i (by omega) (by rw [← hi]; unfold posOf; omega)) $$ [Hcv HO HpV]
  · isplitr; · iexact Hc
    isplitl [Hcv]; · iexact Hcv
    isplitl [HO]; · iexact HO
    iexact HpV
  iintro ⟨HO, HpV, #HrV, Hb, #HrC⟩
  iapply (wp_loadSlot c q (rbufM d) _) $$ Hb; iintro Hb
  iapply Hk
  isplitl [HO]; · iexact HO
  isplitl [Hx]; · iexact Hx
  isplitl [Ha]; · iexact Ha
  isplitl [Hb]; · iapply (slotHas_any (rbufM d) c q _); iexact Hb
  isplitl [HpS HpV HpC]
  · isplitl [HpS]; · iexact HpS
    isplitl [HpV]; · iexact HpV
    iexact HpC
  isplitr; · iexact HrS
  isplitr; · iexact HrV
  iexact HrC

/-- The computing part of a step between the first and the last. -/
theorem wp_compM (s : Fin 8) (r i : ℕ) (hr : s.val = r + 1) (h7 : r ≠ 6) (hi : posOf d q s.val 0 = i)
    (hO : owedAt i c = owedAt (i + 1) c + compOwe c d q s.val) :
    iprop(ctx m ρ K ∗ owesAt' c i ∗ xwPts m ρ c ∗ stA c d q (r + 1) ∗ compRes c d q (r + 1))
      ⊢ iprop(((owesAt' c (i + 1) ∗ xwPts m ρ c ∗ stB m ρ c d q (r + 1)) -∗ runs c k Q) -∗ runs c (compMK c d q s k) Q) := by
  have hs := s.isLt
  unfold compOwe at hO
  rw [if_neg (by omega), if_neg (by omega), show s.val - 1 = r by omega] at hO
  rw [compRes_mid c d q r h7, stB_mid m ρ c d q r h7]
  unfold compMK
  iintro ⟨#Hc, HO, Hx, Hst, Hcv, Ht⟩ Hk
  iapply (wp_compRecv m ρ K c d q s r i hr hi (kk := fun x w v => storeAccK d q (nextSum x w v) <|
      Prog.op (.semSignal (Dev.tc (upsD d c)) (credS d q) (1#32 : BitVec 32).toInt) fun _ => k)) $$ [HO Hx Hst Hcv]
  · isplitr; · iexact Hc
    isplitl [HO]; · iexact HO
    isplitl [Hx]; · iexact Hx
    isplitl [Hst]; · iexact Hst
    iexact Hcv
  iintro ⟨HO, Hx, Ha, Hb, Hpos, #HrS, #HrV, #HrC⟩
  iapply (wp_storeAcc c d q _) $$ Ha; iintro Ha
  iapply (wp_giveCred m ρ K c d q r i (by omega) hO) $$ [HO Ht Hb]
  · isplitr; · iexact Hc
    isplitl [HO]; · iexact HO
    isplitl [Ht]; · iexact Ht
    isplitr; · iexact HrC
    isplitl [Hb]; · iexact Hb
    iexact HrV
  iintro HO
  iapply Hk
  isplitl [HO]; · iexact HO
  isplitl [Hx]; · iexact Hx
  isplitl [Ha]
  · rw [show val m ρ d q (r + 1) c = nextSum (xBlk m ρ d s c) (wBlk m ρ d q c) (val m ρ d q r (upsD d c)) from by
      rw [← stepN_val s, hr]; rfl]
    iexact Ha
  isplitr; · iexact HrS
  iexact Hpos

/-- The computing part of the last step. -/
theorem wp_comp7 (i : ℕ) (hi : posOf d q 7 0 = i) (hO : owedAt i c = owedAt (i + 1) c) (f : (cc0_stg4_0 : Ref sig .tc).ty.Contents (Elt F)) :
    iprop(ctx m ρ K ∗ owesAt' c i ∗ xwPts m ρ c ∗ outPts c f ∗ stA c d q 7 ∗ compRes c d q 7)
      ⊢ iprop(((owesAt' c (i + 1) ∗ xwPts m ρ c ∗ outPts c ((stgO.access (colR d q)).write (Elt F) f (outBlk m ρ d q c) Finset.univ)
            ∗ stB m ρ c d q 7) -∗ runs c k Q)
          -∗ runs c (comp7K c (scale m ρ c) d q 7 k) Q) := by
  rw [compRes_last, stB_last]
  unfold comp7K
  iintro ⟨#Hc, HO, Hx, Ho, Hst, Hcv, -⟩ Hk
  iapply (wp_compRecv m ρ K c d q 7 6 i rfl hi (kk := fun x w v => storeOutK d q (lastOut (scale m ρ c) x w v) k)) $$ [HO Hx Hst Hcv]
  · isplitr; · iexact Hc
    isplitl [HO]; · iexact HO
    isplitl [Hx]; · iexact Hx
    isplitl [Hst]; · iexact Hst
    iexact Hcv
  iintro ⟨HO, Hx, Ha, Hb, Hpos, -, -, -⟩
  iapply (wp_storeOut c d q _ f) $$ Ho; iintro Ho
  iapply Hk
  isplitl [HO]; · unfold owesAt'; rw [← hO]; iexact HO
  isplitl [Hx]; · iexact Hx
  isplitl [Ho]; · unfold outBlk; iexact Ho
  unfold stFin
  isplitl [Ha]; · iexact Ha
  isplitl [Hb]; · iexact Hb
  iexact Hpos

/-- The sending part of every step but the last. -/
theorem wp_send' (s : Fin 8) (i : ℕ) (h7 : s.val ≠ 7) (hi : posOf d q s.val 1 = i)
    (hO : owedAt i c = owedAt (i + 1) c + sendOwe c d q s.val) :
    iprop(ctx m ρ K ∗ owesAt' c i ∗ stB m ρ c d q s.val ∗ sendRes c d q s.val)
      ⊢ iprop(((owesAt' c (i + 1) ∗ stA c d q (s.val + 1)) -∗ runs c k Q) -∗ runs c (sendK c d q s k) Q) := by
  have hs := s.isLt
  unfold sendOwe at hO
  rw [if_neg h7] at hO
  unfold sendRes sendK
  rw [if_neg h7, if_neg h7]
  by_cases h0 : s.val = 0
  · rw [if_pos h0, if_pos h0]
    rw [h0] at hO ⊢
    rw [stB_zero]
    iintro ⟨#Hc, HO, ⟨Ha, Hr⟩, HtS, HtV, -⟩ Hk
    iapply (wp_sendAcc m ρ K c d q 0 i (by omega) hO) $$ [HO Ha Hr HtS HtV]
    · isplitr; · iexact Hc
      isplitl [HO]; · iexact HO
      isplitl [Ha]; · iexact Ha
      isplitl [Hr]; · iexact Hr
      isplitl [HtS]; · iexact HtS
      iexact HtV
    iexact Hk
  · rw [if_neg h0, if_neg h0]
    obtain ⟨r, hr⟩ : ∃ r, s.val = r + 1 := ⟨s.val - 1, by omega⟩
    rw [hr] at hO hi ⊢
    rw [stB_mid m ρ c d q r (by omega), Nat.add_sub_cancel]
    iintro ⟨#Hc, HO, ⟨Ha, #HrS, Hpos⟩, HtS, HtV, Hcc⟩ Hk
    unfold posC
    icases Hpos with ⟨HpS, HpV, HpC⟩
    iapply (wp_waitCred m ρ K c d q r i (by omega) (by rw [← hi]; unfold posOf; omega)) $$ [Hcc HO HpC]
    · isplitr; · iexact Hc
      isplitl [Hcc]; · iexact Hcc
      isplitl [HO]; · iexact HO
      iexact HpC
    iintro ⟨HO, HpC, #HrC, Hb, #HrV⟩
    iapply (wp_sendAcc m ρ K c d q (r + 1) i (by omega) hO) $$ [HO Ha Hb HtS HtV HpS HpV HpC]
    · isplitr; · iexact Hc
      isplitl [HO]; · iexact HO
      isplitl [Ha]; · iexact Ha
      isplitl [Hb HpS HpV HpC]
      · unfold ready posC
        isplitl [Hb]; · iexact Hb
        isplitr; · iexact HrV
        isplitr; · iexact HrC
        isplitr; · iexact HrS
        isplitl [HpS]; · iexact HpS
        isplitl [HpV]; · iexact HpV
        iexact HpC
      isplitl [HtS]; · iexact HtS
      iexact HtV
    iexact Hk

end Ops

end Cert.KernelIdeal

end
-- ==== Proof.Steps.lean ====
/-
# `01_k` — the parts in order

What holds before each of the 128 parts, that every part takes it one further, and so all of them together.
-/
module

public import proofs.«01_k».proof.Proof.Parts

@[expose] public section

set_option maxRecDepth 16384

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig ℕ (Elt F) ℕ UU ℕ

variable (m : (ℓ : Loc nD τ sig) → Buf (Elt F) ℓ) (ρ : Dev nD → PrngReg) (K : Dev nD × CK → ℕ)

/-! ## How far a channel is -/

/-- The parts of a channel before part `i`. -/
def prog (i : ℕ) (d : Dir) (q : Fin 4) : ℕ :=
  2 * (i / 16) + (if posOf d q 0 0 < i % 16 then 1 else 0) + (if posOf d q 0 1 < i % 16 then 1 else 0)

theorem posOf_0 (d : Dir) (q : Fin 4) (ph : ℕ) : posOf d q 0 ph = 4 * q.val + 2 * ph + (if d then 1 else 0) := by
  unfold posOf; omega

/-- Its own part finds a channel at the step's first or second part, -/
theorem prog_own (i : ℕ) : prog i (dirOf i) (subOf i) = 2 * (i / 16) + i / 2 % 2 := by
  unfold prog
  rw [posOf_0, posOf_0]
  unfold dirOf subOf
  simp only [decide_eq_true_eq]
  split <;> split <;> split <;> omega
/-- and leaves it one further; -/
theorem prog_own_succ (i : ℕ) : prog (i + 1) (dirOf i) (subOf i) = 2 * (i / 16) + i / 2 % 2 + 1 := by
  unfold prog
  rw [posOf_0, posOf_0]
  unfold dirOf subOf
  simp only [decide_eq_true_eq]
  split <;> split <;> split <;> omega
/-- the other channels stay. -/
theorem prog_other (i : ℕ) (d : Dir) (q : Fin 4) (h : (d, q) ≠ (dirOf i, subOf i)) : prog (i + 1) d q = prog i d q := by
  have hq := q.isLt
  have h' : ¬ ((if d then 1 else 0) = i % 2 ∧ q.val = i / 4 % 4) := by
    rintro ⟨h1, h2⟩
    refine h (Prod.ext ?_ (Fin.ext h2))
    unfold dirOf
    cases d
    · simp only [Bool.false_eq_true, if_false] at h1
      exact (decide_eq_false (by omega)).symm
    · simp only [if_true] at h1
      exact (decide_eq_true (by omega)).symm
  unfold prog
  rw [posOf_0, posOf_0]
  cases d <;> simp only [Bool.false_eq_true, if_false, if_true] at h' ⊢ <;> split <;> split <;> split <;> split <;> omega

theorem prog_zero (d : Dir) (q : Fin 4) : prog 0 d q = 0 := by
  unfold prog; rw [if_neg (by omega), if_neg (by omega)]
theorem prog_end (d : Dir) (q : Fin 4) : prog 128 d q = 16 := by
  unfold prog; rw [if_neg (by omega), if_neg (by omega)]

theorem stepOf_val (i : ℕ) (h : i < 128) : (stepOf i).val = i / 16 := by
  unfold stepOf; show i / 16 % 8 = _; omega

/-! ## What holds before part `i` -/

section Inv
variable (c : Dev nD)

/-- A channel `p` of its parts along. -/
def chSt (p : ℕ) (dq : Chan) : sProp 𝕄 :=
  if p = 16 then stFin c dq.1 dq.2 else if p % 2 = 0 then stA c dq.1 dq.2 (p / 2) else stB m ρ c dq.1 dq.2 (p / 2)

/-- The tokens part `i` uses. -/
def partRes (i : ℕ) : sProp 𝕄 :=
  if i / 2 % 2 = 0 then compRes c (dirOf i) (subOf i) (i / 16) else sendRes c (dirOf i) (subOf i) (i / 16)

/-- The columns of the channels that are through hold the result. -/
def outOK (i : ℕ) (f : (cc0_stg4_0 : Ref sig .tc).ty.Contents (Elt F)) : Prop :=
  ∀ d q, 15 ≤ prog i d q → (stgO.access (colR d q)).read (Elt F) f = outBlk m ρ d q c

/-- What holds before part `i`, -/
def inv (i : ℕ) : sProp 𝕄 :=
  iprop(owesAt' c i ∗ xwPts m ρ c ∗ (∃ f, ⌜outOK m ρ c i f⌝ ∗ outPts c f)
    ∗ (bigSep Finset.univ fun dq : Chan => chSt m ρ c (prog i dq.1 dq.2) dq) ∗ bigSep (Finset.Ico i 128) fun j => partRes c j)

theorem chSt_comp (i : ℕ) (h : i < 128) (h0 : i / 2 % 2 = 0) :
    chSt m ρ c (prog i (dirOf i) (subOf i)) (dirOf i, subOf i) = stA c (dirOf i) (subOf i) (i / 16) := by
  unfold chSt
  rw [prog_own, if_neg (by omega), if_pos (by omega), show (2 * (i / 16) + i / 2 % 2) / 2 = i / 16 by omega]
theorem chSt_comp_succ (i : ℕ) (h : i < 128) (h0 : i / 2 % 2 = 0) :
    chSt m ρ c (prog (i + 1) (dirOf i) (subOf i)) (dirOf i, subOf i) = stB m ρ c (dirOf i) (subOf i) (i / 16) := by
  unfold chSt
  rw [prog_own_succ, if_neg (by omega), if_neg (by omega), show (2 * (i / 16) + i / 2 % 2 + 1) / 2 = i / 16 by omega]
theorem chSt_send (i : ℕ) (h : i < 128) (h0 : ¬ i / 2 % 2 = 0) :
    chSt m ρ c (prog i (dirOf i) (subOf i)) (dirOf i, subOf i) = stB m ρ c (dirOf i) (subOf i) (i / 16) := by
  unfold chSt
  rw [prog_own, if_neg (by omega), if_neg (by omega), show (2 * (i / 16) + i / 2 % 2) / 2 = i / 16 by omega]
theorem chSt_send_succ (i : ℕ) (h : i < 128) (h0 : ¬ i / 2 % 2 = 0) (h7 : i / 16 ≠ 7) :
    chSt m ρ c (prog (i + 1) (dirOf i) (subOf i)) (dirOf i, subOf i) = stA c (dirOf i) (subOf i) (i / 16 + 1) := by
  unfold chSt
  rw [prog_own_succ, if_neg (by omega), if_pos (by omega), show (2 * (i / 16) + i / 2 % 2 + 1) / 2 = i / 16 + 1 by omega]
theorem chSt_last (i : ℕ) (h : i < 128) (h0 : ¬ i / 2 % 2 = 0) (h7 : i / 16 = 7) :
    chSt m ρ c (prog (i + 1) (dirOf i) (subOf i)) (dirOf i, subOf i) = stB m ρ c (dirOf i) (subOf i) (i / 16) := by
  unfold chSt
  rw [prog_own_succ, if_pos (by omega), h7]
  exact (stB_last m ρ c (dirOf i) (subOf i)).symm

/-- A part that does not finish a channel leaves the result as it is. -/
theorem outOK_keep (i : ℕ) (hn : ¬ (i / 2 % 2 = 0 ∧ i / 16 = 7)) (h : i < 128) {f} (hf : outOK m ρ c i f) : outOK m ρ c (i + 1) f := by
  intro d q hp
  refine hf d q ?_
  by_cases ho : (d, q) = (dirOf i, subOf i)
  · obtain ⟨rfl, rfl⟩ := Prod.mk.inj ho
    rw [prog_own_succ] at hp; rw [prog_own]; omega
  · rwa [prog_other i d q ho] at hp

theorem col_disj : ∀ (d : Dir) (q : Fin 4) (d' : Dir) (q' : Fin 4), (d, q) ≠ (d', q') → LoadRect.disj (colR d q) (colR d' q').toLoadRect = true := by
  decide

/-- A part that finishes one stores its columns. -/
theorem outOK_store (i : ℕ) {f} (hf : outOK m ρ c i f) :
    outOK m ρ c (i + 1) ((stgO.access (colR (dirOf i) (subOf i))).write (Elt F) f (outBlk m ρ (dirOf i) (subOf i) c) Finset.univ) := by
  intro d q hp
  by_cases ho : (d, q) = (dirOf i, subOf i)
  · obtain ⟨rfl, rfl⟩ := Prod.mk.inj ho
    exact View.read_write_univ _ _
  · rw [prog_other i d q ho] at hp
    exact (View.read_slice_write_slice_of_disjoint (v := stgO.view) (colR d q) (colR (dirOf i) (subOf i)) f _ _
      (View.disjoint_slice_of_disj _ _ _ (col_disj d q _ _ ho))).trans (hf d q hp)

variable {k : KProg F} {Q : Post F}

/-- A channel taken out of all of them, to be put back at its next part. -/
theorem chans_out (i : ℕ) {A B : sProp 𝕄} (hA : chSt m ρ c (prog i (dirOf i) (subOf i)) (dirOf i, subOf i) = A)
    (hB : chSt m ρ c (prog (i + 1) (dirOf i) (subOf i)) (dirOf i, subOf i) = B) :
    (bigSep Finset.univ fun dq : Chan => chSt m ρ c (prog i dq.1 dq.2) dq)
      ⊢ iprop(A ∗ (B -∗ bigSep Finset.univ fun dq : Chan => chSt m ρ c (prog (i + 1) dq.1 dq.2) dq)) := by
  subst hA hB
  rw [bigSep_univ_at (fun dq : Chan => chSt m ρ c (prog i dq.1 dq.2) dq) (dirOf i, subOf i),
    bigSep_univ_at (fun dq : Chan => chSt m ρ c (prog (i + 1) dq.1 dq.2) dq) (dirOf i, subOf i),
    bigSep_congr (s := Finset.univ.erase (dirOf i, subOf i)) (Φ := fun dq : Chan => chSt m ρ c (prog (i + 1) dq.1 dq.2) dq) (Ψ := fun dq : Chan => chSt m ρ c (prog i dq.1 dq.2) dq)
      (fun dq hdq => by rw [prog_other i dq.1 dq.2 (Finset.ne_of_mem_erase hdq)])]
  iintro ⟨Ho, Hr⟩
  isplitl [Ho]; · iexact Ho
  iintro Hn
  isplitl [Hn]; · iexact Hn
  iexact Hr

/-- The tokens of the parts from `i` on are those of part `i` and those of the parts after it. -/
theorem res_peel (i : ℕ) (h : i < 128) : (bigSep (Finset.Ico i 128) fun j => partRes (F := F) c j)
    = iprop(partRes c i ∗ bigSep (Finset.Ico (i + 1) 128) fun j => partRes c j) := by
  rw [parts_peel i h]
  exact bigSep_insert (parts_notMem i)

theorem partRes_comp (i : ℕ) (h0 : i / 2 % 2 = 0) : partRes (F := F) c i = compRes c (dirOf i) (subOf i) (i / 16) := if_pos h0
theorem partRes_send (i : ℕ) (h0 : ¬ i / 2 % 2 = 0) : partRes (F := F) c i = sendRes c (dirOf i) (subOf i) (i / 16) := if_neg h0
theorem partK_comp (sc : F .f32) (i : ℕ) (h0 : i / 2 % 2 = 0) : partK c sc i k = compK c sc (dirOf i) (subOf i) (stepOf i) k := if_pos h0
theorem partK_send (sc : F .f32) (i : ℕ) (h0 : ¬ i / 2 % 2 = 0) : partK c sc i k = sendK c (dirOf i) (subOf i) (stepOf i) k := if_neg h0
theorem compK_first (sc : F .f32) (d : Dir) (q : Fin 4) : compK c sc d q 0 k = comp0K c d q 0 k := if_pos rfl
theorem compK_last (sc : F .f32) (d : Dir) (q : Fin 4) : compK c sc d q 7 k = comp7K c sc d q 7 k := (if_neg (by decide)).trans (if_pos rfl)
theorem compK_mid (sc : F .f32) (d : Dir) (q : Fin 4) (s : Fin 8) (h0 : s.val ≠ 0) (h7 : s.val ≠ 7) :
    compK c sc d q s k = compMK c d q s k := (if_neg h0).trans (if_neg h7)
theorem sendK_last (d : Dir) (q : Fin 4) (s : Fin 8) (h7 : s.val = 7) : sendK c d q s k = k :=
  (if_neg (by omega)).trans (if_pos h7)

/-- A part that takes its own channel from `A` to `B` with its own tokens takes what holds before it to what holds before
    the next. -/
theorem wp_part_of (i : ℕ) (h : i < 128) {A B : sProp 𝕄} {P : KProg F}
    (hA : chSt m ρ c (prog i (dirOf i) (subOf i)) (dirOf i, subOf i) = A)
    (hB : chSt m ρ c (prog (i + 1) (dirOf i) (subOf i)) (dirOf i, subOf i) = B)
    (hstep : ∀ f, outOK m ρ c i f → ∃ f', outOK m ρ c (i + 1) f' ∧
      (iprop(ctx m ρ K ∗ owesAt' c i ∗ xwPts m ρ c ∗ outPts c f ∗ A ∗ partRes c i)
        ⊢ iprop(((owesAt' c (i + 1) ∗ xwPts m ρ c ∗ outPts c f' ∗ B) -∗ runs c k Q) -∗ runs c P Q))) :
    iprop(ctx m ρ K ∗ inv m ρ c i) ⊢ iprop((inv m ρ c (i + 1) -∗ runs c k Q) -∗ runs c P Q) := by
  unfold inv
  rw [res_peel c i h]
  iintro ⟨#Hc, HO, Hx, ⟨%f, %hf, Ho⟩, Hch, Hr, Hrs⟩ Hk
  obtain ⟨f', hf', hw⟩ := hstep f hf
  ihave Hch := (chans_out m ρ c i hA hB) $$ Hch
  icases Hch with ⟨Hown, Hback⟩
  iapply hw $$ [HO Hx Ho Hown Hr]
  · isplitr; · iexact Hc
    isplitl [HO]; · iexact HO
    isplitl [Hx]; · iexact Hx
    isplitl [Ho]; · iexact Ho
    isplitl [Hown]; · iexact Hown
    iexact Hr
  iintro ⟨HO, Hx, Ho, Hown⟩
  iapply Hk
  isplitl [HO]; · iexact HO
  isplitl [Hx]; · iexact Hx
  isplitl [Ho]
  · iexists f'
    isplitr; · ipureintro; exact hf'
    iexact Ho
  isplitl [Hback Hown]; · iapply Hback; iexact Hown
  iexact Hrs

/-- Every part takes what holds before it to what holds before the next. -/
theorem wp_part (i : ℕ) (h : i < 128) :
    iprop(ctx m ρ K ∗ inv m ρ c i)
      ⊢ iprop((inv m ρ c (i + 1) -∗ runs c k Q) -∗ runs c (partK c (scale m ρ c) i k) Q) := by
  have hO := owedAt_step i h c
  have hpos := posOf_dirs i h
  have hs := stepOf_val i h
  unfold partOwe at hO
  by_cases h0 : i / 2 % 2 = 0
  · rw [if_pos h0] at hO
    rw [h0] at hpos
    rw [partK_comp c _ i h0]
    refine wp_part_of m ρ K c i h (chSt_comp m ρ c i h h0) (chSt_comp_succ m ρ c i h h0) fun f hf => ?_
    rw [partRes_comp c i h0]
    by_cases hz : (stepOf i).val = 0
    · refine ⟨f, outOK_keep m ρ c i (by omega) h hf, ?_⟩
      have hz' : i / 16 = 0 := by omega
      have hze : stepOf i = 0 := Fin.ext hz
      unfold compOwe at hO
      rw [if_pos hz, add_zero] at hO
      rw [hz', hze, compK_first, show owesAt' (F := F) c (i + 1) = owesAt' c i from by unfold owesAt'; rw [hO]]
      iintro ⟨-, HO, Hx, Ho, Hown, -⟩ Hk
      iapply (wp_comp0 m ρ c (dirOf i) (subOf i)) $$ [Hx Hown]
      · isplitl [Hx]; · iexact Hx
        iexact Hown
      iintro ⟨Hx, Hown⟩
      iapply Hk
      isplitl [HO]; · iexact HO
      isplitl [Hx]; · iexact Hx
      isplitl [Ho]; · iexact Ho
      iexact Hown
    · by_cases h7 : (stepOf i).val = 7
      · refine ⟨_, outOK_store m ρ c i hf, ?_⟩
        have h7' : i / 16 = 7 := by omega
        have h7e : stepOf i = 7 := Fin.ext h7
        unfold compOwe at hO
        rw [if_neg hz, if_pos h7, add_zero] at hO
        rw [h7', h7e, compK_last]
        exact wp_comp7 m ρ K c (dirOf i) (subOf i) i (by rw [← h7]; exact hpos) hO f
      · refine ⟨f, outOK_keep m ρ c i (by omega) h hf, ?_⟩
        obtain ⟨r, hr⟩ : ∃ r, (stepOf i).val = r + 1 := ⟨(stepOf i).val - 1, by omega⟩
        have hr' : i / 16 = r + 1 := by omega
        rw [compK_mid c _ _ _ _ hz h7, hr']
        iintro ⟨#Hc, HO, Hx, Ho, Hown, Hr⟩ Hk
        iapply (wp_compM m ρ K c (dirOf i) (subOf i) (stepOf i) r i hr (by omega) hpos hO) $$ [HO Hx Hown Hr]
        · isplitr; · iexact Hc
          isplitl [HO]; · iexact HO
          isplitl [Hx]; · iexact Hx
          isplitl [Hown]; · iexact Hown
          iexact Hr
        iintro ⟨HO, Hx, Hown⟩
        iapply Hk
        isplitl [HO]; · iexact HO
        isplitl [Hx]; · iexact Hx
        isplitl [Ho]; · iexact Ho
        iexact Hown
  · rw [if_neg h0] at hO
    rw [show i / 2 % 2 = 1 by omega] at hpos
    rw [partK_send c _ i h0]
    by_cases h7 : (stepOf i).val = 7
    · refine wp_part_of m ρ K c i h (chSt_send m ρ c i h h0) (chSt_last m ρ c i h h0 (by omega)) fun f hf =>
        ⟨f, outOK_keep m ρ c i (by omega) h hf, ?_⟩
      unfold sendOwe at hO
      rw [if_pos h7, add_zero] at hO
      rw [sendK_last c _ _ _ h7, show owesAt' (F := F) c (i + 1) = owesAt' c i from by unfold owesAt'; rw [hO]]
      iintro ⟨-, HO, Hx, Ho, Hown, -⟩ Hk
      iapply Hk
      isplitl [HO]; · iexact HO
      isplitl [Hx]; · iexact Hx
      isplitl [Ho]; · iexact Ho
      iexact Hown
    · refine wp_part_of m ρ K c i h (chSt_send m ρ c i h h0) (chSt_send_succ m ρ c i h h0 (by omega)) fun f hf =>
        ⟨f, outOK_keep m ρ c i (by omega) h hf, ?_⟩
      rw [partRes_send c i h0, ← hs]
      iintro ⟨#Hc, HO, Hx, Ho, Hown, Hr⟩ Hk
      iapply (wp_send' m ρ K c (dirOf i) (subOf i) (stepOf i) i h7 hpos hO) $$ [HO Hown Hr]
      · isplitr; · iexact Hc
        isplitl [HO]; · iexact HO
        isplitl [Hown]; · iexact Hown
        iexact Hr
      iintro ⟨HO, Hown⟩
      iapply Hk
      isplitl [HO]; · iexact HO
      isplitl [Hx]; · iexact Hx
      isplitl [Ho]; · iexact Ho
      iexact Hown

/-- All the parts from part `i` on. -/
theorem wp_parts (n i : ℕ) (h : i + n = 128) :
    iprop(ctx m ρ K ∗ inv m ρ c i) ⊢ iprop((inv m ρ c 128 -∗ |={Set.univ}=> Q ⟨⟩) -∗ runs c (partsK c (scale m ρ c) n i) Q) := by
  induction n generalizing i with
  | zero =>
    obtain rfl : i = 128 := by omega
    unfold partsK runs
    rw [wp_ret]
    iintro ⟨#Hc, Hi⟩ Hk
    iapply Hk
    iexact Hi
  | succ n ih =>
    unfold partsK
    iintro ⟨#Hc, Hi⟩ Hk
    iapply (wp_part m ρ K c i (by omega)) $$ [Hi]
    · isplitr; · iexact Hc
      iexact Hi
    iintro Hi
    iapply (ih (i + 1) (by omega)) $$ [Hi]
    · isplitr; · iexact Hc
      iexact Hi
    iexact Hk

end Inv

end Cert.KernelIdeal

end
-- ==== Proof.Body.lean ====
/-
# `01_k` — the body

The whole body on a symbolic device: the handshake, the two scales, the parts, and the closing of the cells; and the
obligation the pipeline asks of it.
-/
module

public import proofs.«01_k».proof.Proof.Steps
public import proofs.«01_k».proof.Proof.Gen.KernelIdeal.Points

@[expose] public section

set_option maxRecDepth 16384

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig ℕ (Elt F) ℕ UU ℕ

variable (m : (ℓ : Loc nD τ sig) → Buf (Elt F) ℓ) (ρ : Dev nD → PrngReg)

/-! ## The result block -/

/-- The direction and the sub-block whose columns hold column `n`. -/
def colDir (n : ℕ) : Dir := decide (4096 ≤ n)
def colSub (n : ℕ) : Fin 4 := ⟨n / 1024 % 4, Nat.mod_lt _ (by decide)⟩

/-- The index in the sub-block. -/
def colIdx (i : S512x8192.Idx) : S512x1024.Idx
  | ⟨0, _⟩ => ⟨(i 0).val, (i 0).isLt⟩
  | ⟨1, _⟩ => ⟨(i 1).val % 1024, Nat.mod_lt _ (by decide)⟩

/-- The device's result: each channel's columns side by side. -/
def outAt (c : Dev nD) : FVec F S512x8192 .f32 := fun i =>
  outBlk m ρ (colDir (i 1).val) (colSub (i 1).val) c (colIdx i)

theorem colR_idx (i : S512x8192.Idx) : (colR (colDir (i 1).val) (colSub (i 1).val)).idx (colIdx i) = i := by
  have h1 : (i 1).val < 8192 := (i 1).isLt
  funext a
  apply Fin.ext
  match a with
  | ⟨0, _⟩ => show 0 + 1 * (i 0).val = (i 0).val; omega
  | ⟨1, _⟩ =>
    show colOf (colDir (i 1).val) (colSub (i 1).val) + 1 * ((i 1).val % 1024) = (i 1).val
    unfold colOf colDir colSub
    simp only [decide_eq_true_eq]
    split <;> omega

/-- Once every channel is through, the staging buffer holds the result. -/
theorem outOK_end (c : Dev nD) (f : FVec F S512x8192 .f32) (h : outOK m ρ c 128 f) : f = outAt m ρ c := by
  funext i
  have hr := congrFun (h (colDir (i 1).val) (colSub (i 1).val) (by rw [prog_end]; decide)) (colIdx i)
  have he : (stgO.access (colR (colDir (i 1).val) (colSub (i 1).val))).read (Elt F) f (colIdx i) = f ((colR (colDir (i 1).val) (colSub (i 1).val)).idx (colIdx i)) := rfl
  rw [colR_idx] at he
  unfold outAt
  exact he.symm.trans hr

/-! ## The pipeline's proof data -/

theorem cfg0_N : cfg0.N = 1 := Gen.N_0
def t₀ : Fin cfg0.N := ⟨0, by rw [cfg0_N]; decide⟩
theorem fin_N (t : Fin cfg0.N) : t = t₀ := by
  obtain ⟨t, ht⟩ := t; have := cfg0_N; exact Fin.ext (by simp only [t₀]; omega)

section Ghost
variable (c : Dev nD)

/-- A part's tokens by where they come from: those that pay, made at the launch, -/
def partTok (i : ℕ) : sProp 𝕄 :=
  if i / 2 % 2 = 0 then
    if i / 16 = 0 then iprop(emp) else if i / 16 = 7 then iprop(emp) else dutyTok ER (credCell (upsD (dirOf i) c) (dirOf i) (subOf i)) (i / 16 - 1) false
  else if i / 16 = 7 then iprop(emp) else
    iprop(dutyTok ER (sendCell c (dirOf i) (subOf i)) (i / 16) false ∗ dutyTok ER (recvCell (dstD (dirOf i) c) (dirOf i) (subOf i)) (i / 16) false)
/-- and those that wait, which the others' debts give. -/
def partCred (i : ℕ) : sProp 𝕄 :=
  if i / 2 % 2 = 0 then
    if i / 16 = 0 then iprop(emp) else cred (tallyAt (recvCell c (dirOf i) (subOf i)) (i / 16 - 1) N)
  else if i / 16 = 7 then iprop(emp) else if i / 16 = 0 then iprop(emp) else cred (tallyAt (credCell c (dirOf i) (subOf i)) (i / 16 - 1) 1)

theorem partRes_intro (i : ℕ) : iprop(partTok (F := F) c i ∗ partCred c i) ⊢ partRes c i := by
  unfold partTok partCred partRes
  by_cases h0 : i / 2 % 2 = 0
  · rw [if_pos h0, if_pos h0, if_pos h0]
    by_cases hz : i / 16 = 0
    · rw [if_pos hz, if_pos hz, hz, show compRes (F := F) c (dirOf i) (subOf i) 0 = iprop(emp) from rfl]
      iintro ⟨H, -⟩; iexact H
    · rw [if_neg hz, if_neg hz]
      obtain ⟨r, hr⟩ : ∃ r, i / 16 = r + 1 := ⟨i / 16 - 1, by omega⟩
      rw [hr, Nat.add_sub_cancel]
      by_cases h7 : r + 1 = 7
      · obtain rfl : r = 6 := by omega
        rw [if_pos rfl, compRes_last]
        iintro ⟨H, H'⟩
        isplitl [H']; · iexact H'
        iexact H
      · rw [if_neg h7, compRes_mid c _ _ r (by omega)]
        iintro ⟨H, H'⟩
        isplitl [H']; · iexact H'
        iexact H
  · rw [if_neg h0, if_neg h0, if_neg h0]
    unfold sendRes
    by_cases h7 : i / 16 = 7
    · rw [if_pos h7, if_pos h7, if_pos h7]
      iintro ⟨H, -⟩; iexact H
    · rw [if_neg h7, if_neg h7, if_neg h7]
      iintro ⟨⟨H, H'⟩, H''⟩
      isplitl [H]; · iexact H
      isplitl [H']; · iexact H'
      iexact H''

/-- What the launch leaves a device: the rounds of its cells all at 0, the tokens it pays with. -/
def linear : sProp 𝕄 :=
  iprop(atPos ER (barCell c) 0 ∅ 0 ∗ (bigSep Finset.univ fun dq : Chan => posC c dq.1 dq.2 0 0 0)
    ∗ dutyTok ER (barCell (upsD false c)) 0 false ∗ dutyTok ER (barCell (upsD true c)) 0 true
    ∗ bigSep (Finset.Ico 0 128) fun i => partTok c i)

/-- What a device's body starts from: that, with the invariants, and the tokens it waits with. -/
def start : sProp 𝕄 :=
  iprop((∃ K, ctx m ρ K ∗ linear c) ∗ cred (tallyAt (barCell c) 0 2) ∗ bigSep (Finset.Ico 0 128) fun i => partCred c i)

/-- A device's slots, each whole at some contents. -/
def slots : sProp 𝕄 :=
  iprop((bigSep Finset.univ fun dq : Chan => slotAny (accM dq.1) c dq.2) ∗ bigSep Finset.univ fun dq : Chan => slotAny (rbufM dq.1) c dq.2)

/-- A channel's three semaphores at zero. -/
def semC (dq : Chan) : sProp 𝕄 :=
  iprop(semVal (sendCell c dq.1 dq.2) 0 ∗ semVal (recvCell c dq.1 dq.2) 0 ∗ semVal (credCell c dq.1 dq.2) 0)

def Φ₀ : sProp 𝕄 := iprop(start m ρ c ∗ slots c)
/-- After the body: the slots, and every semaphore at zero. -/
def Φ₁ : sProp 𝕄 := iprop(slots c ∗ (bigSep Finset.univ fun dq : Chan => semC c dq) ∗ semVal (barCell c) 0)

end Ghost

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => sxstg m ρ c
    | ⟨3, _⟩ => swstg m ρ c
    | ⟨4, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] in
theorem bigSep_W (Φ : Fin cfg0.W → sProp 𝕄) :
    bigSep Finset.univ Φ = iprop(Φ (0 : Fin 5) ∗ Φ (1 : Fin 5) ∗ Φ (2 : Fin 5) ∗ Φ (3 : Fin 5) ∗ Φ (4 : Fin 5)) := Gen.bigSep_W0 Φ

theorem fetch_0 (t : Fin cfg0.N) : (cfg0.win (0 : Fin 5)).fetch t = true := by rw [fin_N t]; rfl
theorem fetch_1 (t : Fin cfg0.N) : (cfg0.win (1 : Fin 5)).fetch t = true := by rw [fin_N t]; rfl
theorem fetch_2 (t : Fin cfg0.N) : (cfg0.win (2 : Fin 5)).fetch t = true := by rw [fin_N t]; rfl
theorem fetch_3 (t : Fin cfg0.N) : (cfg0.win (3 : Fin 5)).fetch t = true := by rw [fin_N t]; rfl

/-- A whole staging buffer at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄) = stg c b X := by
  unfold owns; simp only [Memref.view_whole, View.read_whole, View.set_whole]

/-! ## The body -/

section Body
variable (c : Dev nD)

omit [FloatOps F] in
/-- A conjunction over all channels, direction by direction. -/
theorem bigSep_chan (Φ : Chan → sProp 𝕄) :
    bigSep Finset.univ Φ = iprop((bigSep Finset.univ fun q => Φ (false, q)) ∗ bigSep Finset.univ fun q => Φ (true, q)) := by
  rw [bigSep_univ_prod]
  exact bigSep_univ_eq_bigSepL [false, true] (by decide) (by decide) fun d => bigSep Finset.univ fun q => Φ (d, q)

omit [FloatOps F] in
/-- A persistent fact at hand for every conjunct. -/
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

variable (K : Dev nD × CK → ℕ)

/-- The channels before the first part. -/
theorem chans_start :
    iprop(ctx m ρ K ∗ (bigSep Finset.univ fun dq : Chan => slotAny (accM dq.1) c dq.2)
        ∗ (bigSep Finset.univ fun dq : Chan => slotAny (rbufM dq.1) (dstD dq.1 c) dq.2) ∗ bigSep Finset.univ fun dq : Chan => posC c dq.1 dq.2 0 0 0)
      ⊢ bigSep Finset.univ fun dq : Chan => chSt m ρ c (prog 0 dq.1 dq.2) dq := by
  rw [← bigSep_sep', ← bigSep_sep']
  refine bigSep_with fun dq _ => ?_
  obtain ⟨d, q⟩ := dq
  rw [prog_zero, show chSt m ρ c 0 (d, q) = stA c d q 0 from rfl, stA_zero]
  unfold ready
  iintro ⟨#Hc, Ha, Hb, Hp⟩
  isplitl [Ha]; · iexact Ha
  isplitl [Hb]; · iexact Hb
  isplitr; · iapply (ctx_reached m ρ K (dstD d c, some (1, d, q))); iexact Hc
  isplitr; · iapply (ctx_reached m ρ K (c, some (2, d, q))); iexact Hc
  isplitr; · iapply (ctx_reached m ρ K (c, some (0, d, q))); iexact Hc
  iexact Hp

/-- A channel done gives its slots back, and its cells close. -/
theorem chan_close (dq : Chan) :
    iprop(ctx m ρ K ∗ chSt m ρ c (prog 128 dq.1 dq.2) dq)
      ⊢ iprop(|={Set.univ}=> (slotAny (accM dq.1) c dq.2 ∗ slotAny (rbufM dq.1) c dq.2 ∗ semC c dq)) := by
  obtain ⟨d, q⟩ := dq
  rw [prog_end, show chSt m ρ c 16 (d, q) = stFin c d q from if_pos rfl]
  unfold stFin posC semC
  iintro ⟨#Hc, Ha, Hb, HpS, HpV, HpC⟩
  imod (Rounds.cell_close ER (ringRd m ρ) (Set.mem_univ (K (c, some (0, d, q)))) (fun h => h) (R := 7) (fun r hr => duties_seven m ρ c (some (0, d, q)) r hr)) $$ [HpS] with HzS
  · isplitr; · iapply (ctx_inv m ρ K (c, some (0, d, q))); iexact Hc
    iexact HpS
  imod (Rounds.cell_close ER (ringRd m ρ) (Set.mem_univ (K (c, some (1, d, q)))) (fun h => h) (R := 7) (fun r hr => duties_seven m ρ c (some (1, d, q)) r hr)) $$ [HpV] with HzV
  · isplitr; · iapply (ctx_inv m ρ K (c, some (1, d, q))); iexact Hc
    iexact HpV
  imod (Rounds.cell_close ER (ringRd m ρ) (Set.mem_univ (K (c, some (2, d, q)))) (fun h => h) (R := 6) (fun r hr => duties_six m ρ c d q r hr)) $$ [HpC] with HzC
  · isplitr; · iapply (ctx_inv m ρ K (c, some (2, d, q))); iexact Hc
    iexact HpC
  imodintro
  isplitl [Ha]; · iexact Ha
  isplitl [Hb]; · iexact Hb
  isplitl [HzS]; · iexact HzS
  isplitl [HzV]; · iexact HzV
  iexact HzC

theorem chans_end :
    iprop(ctx m ρ K ∗ bigSep Finset.univ fun dq : Chan => chSt m ρ c (prog 128 dq.1 dq.2) dq)
      ⊢ iprop(|={Set.univ}=> (slots c ∗ bigSep Finset.univ fun dq : Chan => semC c dq)) := by
  refine (bigSep_with fun dq _ => chan_close m ρ c K dq).trans ((bigSep_fupd _ _).trans (BI.fupd_mono ?_))
  unfold slots
  rw [bigSep_sep', bigSep_sep']
  iintro ⟨H, H', H''⟩
  isplitl [H H']
  · isplitl [H] <;> iassumption
  iexact H''

/-- What the body starts from, -/
def bodyPre : sProp 𝕄 :=
  iprop((ctx m ρ K ∗ linear c ∗ cred (tallyAt (barCell c) 0 2) ∗ (bigSep (Finset.Ico 0 128) fun i => partCred c i) ∗ slots c)
    ∗ (dats m ρ 0 c).owesAt 0 t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))

/-- and what it ends with. -/
def bodyPost : sProp 𝕄 :=
  iprop(Φ₁ c ∗ (dats m ρ 0 c).owesAt 0 t₀.succ ∗ stg c cc0_stg0_0 (xstg m ρ c) ∗ stg c cc0_stg1_0 (wstg m ρ c)
    ∗ stg c cc0_stg2_0 (sxstg m ρ c) ∗ stg c cc0_stg3_0 (swstg m ρ c) ∗ stg c cc0_stg4_0 (outAt m ρ c))

/-- The body with each scale's load as one operation. -/
theorem bodyK_eq : bodyK (F := F) = (
    Prog.op (.deviceId) fun me =>
      Prog.op (.semSignal (Dev.tc (lf me)) barS (1#32 : BitVec 32).toInt) fun _ =>
      Prog.op (.semSignal (Dev.tc (rt me)) barS (1#32 : BitVec 32).toInt) fun _ =>
      Prog.op (.semWait barS (2#32 : BitVec 32).toInt) fun _ =>
      smemLoadElt (Memref.whole cc0_stg2_0 : Memref sig .tc .smem S1 .f32) word1 (View.loads_smem_one rfl numel1_S1) (Shape.Idx.first (numel1_S1.symm ▸ Nat.one_pos)) fun v9 =>
      smemLoadElt (Memref.whole cc0_stg3_0 : Memref sig .tc .smem S1 .f32) word1 (View.loads_smem_one rfl numel1_S1) (Shape.Idx.first (numel1_S1.symm ▸ Nat.one_pos)) fun v10 =>
      partsK me (Gen.k0_pay2 v9 v10) 128 0 : KProg F) := rfl

/-- The handshake: a signal to each neighbour with the slots it may send into, and the wait for both neighbours'. -/
theorem wp_handshake {k : KProg F} {Q : Post F} (W : Waits sig ℕ) :
    iprop(ctx m ρ K ∗ owes (c : Thread nD τ) (O₀ c) W ∗ cred (tallyAt (barCell c) 0 2) ∗ atPos ER (barCell c) 0 ∅ 0
        ∗ dutyTok ER (barCell (upsD false c)) 0 false ∗ dutyTok ER (barCell (upsD true c)) 0 true
        ∗ bigSep Finset.univ fun dq : Chan => slotAny (rbufM dq.1) c dq.2)
      ⊢ iprop(((owesAt' c 0 ∗ atPos ER (barCell c) (0 + 1) ∅ 0 ∗ bigSep Finset.univ fun dq : Chan => slotAny (rbufM dq.1) (dstD dq.1 c) dq.2) -∗ runs c k Q)
        -∗ runs c (Prog.op (.semSignal (Dev.tc (lf c)) barS (1#32 : BitVec 32).toInt) fun _ =>
            Prog.op (.semSignal (Dev.tc (rt c)) barS (1#32 : BitVec 32).toInt) fun _ =>
            Prog.op (.semWait barS (2#32 : BitVec 32).toInt) fun _ => k) Q) := by
  rw [bigSep_chan, bigSep_chan]
  iintro ⟨#Hc, HO, Hcr, Hat, Ht0, Ht1, Hs0, Hs1⟩ Hk
  iapply (Rounds.wp_signal 𝒱₀ ER (ringRd m ρ) (c : Thread nD τ) none (dst := (upsD false c : Thread nD τ)) (κ := K (upsD false c, none))
      (r := 0) (d := false) (show false ∈ (ringRd (F := F) m ρ).duties ((upsD false c : Thread nD τ), csem none) 0 by rw [duties_k]; exact Finset.mem_univ _)
      ((amount_k m ρ (upsD false c) none 0 false).trans (show amountK none = _ from rfl)) 0 (O₁ c) rfl) $$ [HO Ht0 Hs0]
  · isplitr; · iapply (ctx_inv m ρ K (upsD false c, none)); iexact Hc
    isplitl [HO]; · iexact HO
    isplitl [Ht0]; · iexact Ht0
    isplitl [Hs0]
    · iapply (Entails.of_eq ((payload_k m ρ (upsD false c) none 0 false).trans (payK_bar m ρ (upsD false c) false 0)).symm)
      rw [dst_ups]
      iexact Hs0
    iapply (ctx_reached m ρ K (upsD false c, none)); iexact Hc
  iintro HO
  iapply (Rounds.wp_signal 𝒱₀ ER (ringRd m ρ) (c : Thread nD τ) none (dst := (upsD true c : Thread nD τ)) (κ := K (upsD true c, none))
      (r := 0) (d := true) (show true ∈ (ringRd (F := F) m ρ).duties ((upsD true c : Thread nD τ), csem none) 0 by rw [duties_k]; exact Finset.mem_univ _)
      ((amount_k m ρ (upsD true c) none 0 true).trans (show amountK none = _ from rfl)) 0 (owedAt 0 c) rfl) $$ [HO Ht1 Hs1]
  · isplitr; · iapply (ctx_inv m ρ K (upsD true c, none)); iexact Hc
    isplitl [HO]; · iexact HO
    isplitl [Ht1]; · iexact Ht1
    isplitl [Hs1]
    · iapply (Entails.of_eq ((payload_k m ρ (upsD true c) none 0 true).trans (payK_bar m ρ (upsD true c) true 0)).symm)
      rw [dst_ups]
      iexact Hs1
    iapply (ctx_reached m ρ K (upsD true c, none)); iexact Hc
  iintro HO
  iapply (Rounds.wp_wait_rest_token 𝒱₀ ER (ringRd m ρ) (c : Thread nD τ) none (κ := K (c, none))
      (wpE_semWait_eq 𝒱₀ (c : Thread nD τ) none Set.univ) (Set.mem_univ _) 0 (O := owedAt 0 c) (W := W) (R := 0) (m := 0) (T := ∅)
      (by rw [Nat.zero_add]; exact (show _ = 2 by decide).trans (expect_bar m ρ c).symm)) $$ [Hcr HO Hat]
  · isplitr; · iapply (ctx_inv m ρ K (c, none)); iexact Hc
    isplitl [Hcr]; · iexact Hcr
    isplitl [HO]; · iexact HO
    isplitr
    · iapply (mayWait_at c none 0 0 (by omega) (by show 1 < 2 + 0; omega)); iapply (ctx_lev m ρ K); iexact Hc
    iexact Hat
  iintro ⟨HO, Hat, -, Hpay⟩
  ihave Hp := (Entails.of_eq ((rest_bar m ρ c).trans (by rw [payK_bar, payK_bar]))) $$ Hpay
  icases Hp with ⟨Hs0, Hs1⟩
  iapply Hk
  isplitl [HO]; · unfold owesAt'; iexists _; iexact HO
  isplitl [Hat]; · iexact Hat
  isplitl [Hs0]; · iexact Hs0
  iexact Hs1

set_option maxHeartbeats 800000 in
/-- The body, from its start to its end. -/
theorem sound_body (Kt : Post F) : iprop(bodyPre m ρ c K ∗ (bodyPost m ρ c -∗ Kt ⟨⟩)) ⊢ runs c (bodyK (F := F)) Kt := by
  rw [bodyK_eq]
  unfold runs
  simp only [wp_deviceId]
  unfold bodyPre linear slots
  iintro ⟨⟨⟨#Hc, ⟨Hat, Hpos, Ht0, Ht1, Htk⟩, Hcb, Hcr, Hsa, Hsb⟩,
    Ho, ⟨%d0, %g0, %hg0, Hx⟩, ⟨%d1, %g1, %hg1, Hw⟩, ⟨%d2, %g2, %hg2, Hsx⟩, ⟨%d3, %g3, %hg3, Hsw⟩, ⟨%d4, %g4, %hg4, Hout⟩⟩, Hk⟩
  have hx : g0 = xstg m ρ c := by rw [hg0]; unfold Dat.before; rw [if_pos (fetch_0 t₀)]; rfl
  have hw : g1 = wstg m ρ c := by rw [hg1]; unfold Dat.before; rw [if_pos (fetch_1 t₀)]; rfl
  have hsx : g2 = sxstg m ρ c := by rw [hg2]; unfold Dat.before; rw [if_pos (fetch_2 t₀)]; rfl
  have hsw : g3 = swstg m ρ c := by rw [hg3]; unfold Dat.before; rw [if_pos (fetch_3 t₀)]; rfl
  subst hx hw hsx hsw
  unfold Dat.owesAt Pipeline.owesWithin
  icases Ho with ⟨%W, %hW, HO⟩
  rw [show (dats m ρ 0 c).owed t₀.castSucc = O₀ c from rfl]
  iapply (wp_handshake m ρ c K W) $$ [HO Hcb Hat Ht0 Ht1 Hsb]
  · isplitr; · iexact Hc
    isplitl [HO]; · iexact HO
    isplitl [Hcb]; · iexact Hcb
    isplitl [Hat]; · iexact Hat
    isplitl [Ht0]; · iexact Ht0
    isplitl [Ht1]; · iexact Ht1
    iexact Hsb
  iintro ⟨HO, Hat, Hsb⟩
  iapply (wp_smemLoadElt 𝒱₀ (c : Thread nD τ) none Set.univ (m := (Memref.whole cc0_stg2_0 : Memref sig .tc .smem S1 .f32)) (r := word1) (Finset.subset_univ _)) $$ Hsx; iintro Hsx
  iapply (wp_smemLoadElt 𝒱₀ (c : Thread nD τ) none Set.univ (m := (Memref.whole cc0_stg3_0 : Memref sig .tc .smem S1 .f32)) (r := word1) (Finset.subset_univ _)) $$ Hsw; iintro Hsw
  ihave Hch := (chans_start m ρ c K) $$ [Hsa Hsb Hpos]
  · isplitr; · iexact Hc
    isplitl [Hsa]; · iexact Hsa
    isplitl [Hsb]; · iexact Hsb
    iexact Hpos
  ihave Hrs := ((Entails.of_eq (bigSep_sep' (Finset.Ico 0 128) (fun i => partTok (F := F) c i) (fun i => partCred c i)).symm).trans
    (bigSep_mono fun i _ => partRes_intro c i)) $$ [Htk Hcr]
  · isplitl [Htk] <;> iassumption
  iapply (wp_parts m ρ K c 128 0 rfl) $$ [HO Hx Hw Hout Hch Hrs]
  · isplitr; · iexact Hc
    unfold inv xwPts
    isplitl [HO]; · iexact HO
    isplitl [Hx Hw]
    · isplitl [Hx] <;> iassumption
    isplitl [Hout]
    · iexists g4
      isplitr
      · ipureintro
        intro d q h
        rw [prog_zero] at h
        exact absurd h (by decide)
      iexact Hout
    isplitl [Hch] <;> iassumption
  unfold inv xwPts owesAt'
  iintro ⟨⟨%W', HO⟩, ⟨Hx, Hw⟩, ⟨%f, %hf, Hout⟩, Hch, -⟩
  have hf' := outOK_end m ρ c f hf
  subst hf'
  imod (chans_end m ρ c K) $$ [Hch] with ⟨Hsl, Hz⟩
  · isplitr; · iexact Hc
    iexact Hch
  imod (Rounds.cell_close ER (ringRd m ρ) (Set.mem_univ (K (c, none))) (fun h => h) (R := 0 + 1) (fun r hr => duties_one m ρ c r hr)) $$ [Hat] with HzB
  · isplitr; · iapply (ctx_inv m ρ K (c, none)); iexact Hc
    iexact Hat
  imodintro
  iapply Hk
  unfold bodyPost Φ₁ Dat.owesAt Pipeline.owesWithin
  rw [show (dats m ρ 0 c).owed t₀.succ = 0 from rfl, owedAt_end]
  isplitl [Hsl Hz HzB]
  · isplitl [Hsl]; · iexact Hsl
    isplitl [Hz] <;> iassumption
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  isplitl [Hsx]
  · iexists _; isplitr; · (ipureintro; rfl)
    iexact Hsx
  isplitl [Hsw]
  · iexists _; isplitr; · (ipureintro; rfl)
    iexact Hsw
  iexists _; isplitr; · (ipureintro; rfl)
  iexact Hout

def bodyPre' : sProp 𝕄 :=
  iprop(Φ₀ m ρ c ∗ (dats m ρ 0 c).owesAt 0 t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))

/-- What the pipeline calls is the body. -/
theorem body_call : defs₀ (F := F) .tc cfg0.body (cfg0.bodyArgs t₀ (cfg0.slots t₀)) = bodyK (F := F) :=
  (show defs₀ (F := F) .tc cfg0.body (cfg0.bodyArgs t₀ (cfg0.slots t₀)) = Gen.bodyAt0 t₀ from rfl).trans body_eq

/-! The staging buffers are whole. -/

omit [FloatOps F] in
theorem owns_stg0 (X : S4096x512.Idx → Elt F .i8) :
    (owns (Ix := ℕ) (Name := ℕ) (U := UU) (Lvl := ℕ) (c : Thread nD τ) (stage0_0 0) fullShare X : sProp 𝕄) = stg c cc0_stg0_0 X :=
  owns_whole_eq c cc0_stg0_0 X
omit [FloatOps F] in
theorem owns_stg1 (X : S512x8192.Idx → Elt F .i8) :
    (owns (Ix := ℕ) (Name := ℕ) (U := UU) (Lvl := ℕ) (c : Thread nD τ) (stage0_1 0) fullShare X : sProp 𝕄) = stg c cc0_stg1_0 X :=
  owns_whole_eq c cc0_stg1_0 X
omit [FloatOps F] in
theorem owns_stg2 (X : S1.Idx → Elt F .f32) :
    (owns (Ix := ℕ) (Name := ℕ) (U := UU) (Lvl := ℕ) (c : Thread nD τ) (stage0_2 0) fullShare X : sProp 𝕄) = stg c cc0_stg2_0 X :=
  owns_whole_eq c cc0_stg2_0 X
omit [FloatOps F] in
theorem owns_stg3 (X : S1.Idx → Elt F .f32) :
    (owns (Ix := ℕ) (Name := ℕ) (U := UU) (Lvl := ℕ) (c : Thread nD τ) (stage0_3 0) fullShare X : sProp 𝕄) = stg c cc0_stg3_0 X :=
  owns_whole_eq c cc0_stg3_0 X
omit [FloatOps F] in
theorem owns_stg4 (X : S512x8192.Idx → Elt F .f32) :
    (owns (Ix := ℕ) (Name := ℕ) (U := UU) (Lvl := ℕ) (c : Thread nD τ) (stage0_4 0) fullShare X : sProp 𝕄) = stg c cc0_stg4_0 X :=
  owns_whole_eq c cc0_stg4_0 X

/-- What the pipeline asks of the body, on device `c`. -/
theorem body_obligation : BodyObligation (dats (F := F) m ρ 0 c) (defs₀ (F := F)) 𝒱₀ 0 Set.univ := fun t => by
  rw [fin_N t]
  have hP : bodyPre' m ρ c ⊢ runs c (defs₀ (F := F) .tc cfg0.body (cfg0.bodyArgs t₀ (cfg0.slots t₀))) (fun _ => bodyPost m ρ c) := by
    rw [body_call]
    unfold bodyPre' Φ₀ start
    iintro ⟨⟨⟨⟨%K, #Hc, Hl⟩, Hcb, Hcr⟩, Hs⟩, Hrest⟩
    iapply (sound_body m ρ c K fun _ => bodyPost m ρ c)
    unfold bodyPre
    isplitl
    · isplitl [Hl Hcb Hcr Hs]
      · isplitr; · iexact Hc
        isplitl [Hl]; · iexact Hl
        isplitl [Hcb]; · iexact Hcb
        isplitl [Hcr]; · iexact Hcr
        iexact Hs
      iexact Hrest
    · iintro H; iexact H
  revert hP
  generalize defs₀ (F := F) .tc cfg0.body (cfg0.bodyArgs t₀ (cfg0.slots t₀)) = P
  intro hP
  rw [bigSep_W, bigSep_W]
  simp only [owns_stg0 c, owns_stg1 c, owns_stg2 c, owns_stg3 c, owns_stg4 c]
  exact hP

end Body

end Cert.KernelIdeal

end
-- ==== Proof.Slots.lean ====
/-
# `01_k` — a scratch buffer as its four slots, and the kinds of cells one by one
-/
module

public import proofs.«01_k».proof.Proof.Body

@[expose] public section

set_option maxRecDepth 16384

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig ℕ (Elt F) ℕ UU ℕ

/-! ## The four slots -/

section Slots
variable (M : Memref sig .tc .vmem S4x512x1024 .i32) (c : Dev nD)

omit [FloatOps F] in
/-- Two slots have no element in common. -/
theorem slot_disj (q q' : Fin 4) (h : q ≠ q') : Disjoint (slotM M q).view.set (slotM M q').view.set := by
  rw [slot_set, slot_set]
  exact View.disjoint_slice_of_disj M.view (slotR q) (slotR q') (by revert h; revert q q'; decide)

omit [FloatOps F] in
/-- Every index lies in a slot. -/
theorem slotR_cover (i : S4x512x1024.Idx) : i ∈ (slotR (i 0)).set := by
  refine Rect.mem_set_unit.mpr fun a => ?_
  match a with
  | ⟨0, _⟩ => exact ⟨Nat.le_refl _, Nat.lt_succ_self _⟩
  | ⟨1, _⟩ => exact ⟨Nat.zero_le _, by show (i 1).val < 0 + 512; have : (i 1).val < 512 := (i 1).isLt; omega⟩
  | ⟨2, _⟩ => exact ⟨Nat.zero_le _, by show (i 2).val < 0 + 1024; have : (i 2).val < 1024 := (i 2).isLt; omega⟩

omit [FloatOps F] in
/-- The slots make up the whole memref. -/
theorem slots_union : (Finset.univ : Finset (Fin 4)).biUnion (fun q => (slotM M q).view.set) = M.view.set := by
  ext j
  simp only [Finset.mem_biUnion, Finset.mem_univ, true_and]
  constructor
  · rintro ⟨q, hq⟩
    rw [slot_set] at hq
    exact View.set_slice_subset _ _ hq
  · intro hj
    obtain ⟨i, -, rfl⟩ := Finset.mem_map.mp hj
    obtain ⟨q, hq⟩ : ∃ q : Fin 4, i ∈ (slotR q).set := ⟨_, slotR_cover i⟩
    refine ⟨q, ?_⟩
    rw [slot_set, show (M.access (slotR q)).set = M.view.setOn (slotR q).set from View.set_slice _ _]
    exact Finset.mem_map_of_mem _ hq

omit [FloatOps F] in
theorem slots_split : iprop(∃ f, M.view.loc (c : Thread nD τ) ↦[M.view.set]{fullShare} f) ⊢ (bigSep Finset.univ fun q : Fin 4 => slotAny M c q : sProp 𝕄) := by
  iintro ⟨%f, H⟩
  iapply (show (M.view.loc (c : Thread nD τ) ↦[M.view.set]{fullShare} f) ⊢ (bigSep Finset.univ fun q : Fin 4 => slotAny M c q : sProp 𝕄) from by
    rw [← slots_union, pointsTo_biUnion Finset.univ _ fun q _ q' _ h => slot_disj M q q' h]
    exact bigSep_mono fun q _ => show slotPts M c q f ⊢ slotAny M c q from by
      unfold slotAny; iintro H; iexists f; iexact H)
  iexact H

omit [FloatOps F] in
theorem slots_join (f₀ : Buf (Elt F) (M.view.loc (c : Thread nD τ))) :
    (bigSep Finset.univ fun q : Fin 4 => slotAny M c q : sProp 𝕄) ⊢ iprop(∃ f, M.view.loc (c : Thread nD τ) ↦[M.view.set]{fullShare} f) := by
  haveI : Nonempty (Buf (Elt F) (M.view.loc (c : Thread nD τ))) := ⟨f₀⟩
  unfold slotAny
  iintro H
  ihave H := (BI.bigSep_exists_pi Finset.univ (fun (q : Fin 4) (f : Buf (Elt F) (M.view.loc (c : Thread nD τ))) => (slotPts M c q f : sProp 𝕄))) $$ H
  icases H with ⟨%fs, H⟩
  ihave H := (pointsTo_biUnion_join Finset.univ (fun q => (slotM M q).view.set) fs f₀ fun q _ q' _ h => slot_disj M q q' h) $$ H
  icases H with ⟨%g, -, H⟩
  iexists g
  iapply (Entails.of_eq (congrArg (fun S => (M.view.loc (c : Thread nD τ) ↦[S]{fullShare} g : sProp 𝕄)) (slots_union M)))
  iexact H

variable (hM : M.view.set = Finset.univ)
include hM

omit [FloatOps F] in
/-- So a whole buffer held is its slots held, -/
theorem whole_split : iprop(∃ f : Buf (Elt F) (M.view.loc (c : Thread nD τ)), M.view.loc (c : Thread nD τ) ↦{fullShare} f)
    ⊢ (bigSep Finset.univ fun q : Fin 4 => slotAny M c q : sProp 𝕄) := by
  have h := slots_split (F := F) M c
  rw [hM] at h
  exact h

omit [FloatOps F] in
/-- and back. -/
theorem whole_join (f₀ : Buf (Elt F) (M.view.loc (c : Thread nD τ))) : (bigSep Finset.univ fun q : Fin 4 => slotAny M c q : sProp 𝕄)
    ⊢ iprop(∃ f : Buf (Elt F) (M.view.loc (c : Thread nD τ)), M.view.loc (c : Thread nD τ) ↦{fullShare} f) := by
  have h := slots_join (F := F) M c f₀
  rw [hM] at h
  exact h

end Slots

theorem accM_set (d : Dir) : (accM d).view.set = Finset.univ := by cases d <;> exact View.set_whole _
theorem rbufM_set (d : Dir) : (rbufM d).view.set = Finset.univ := by cases d <;> exact View.set_whole _

/-! ## The cells of a device, kind by kind -/

omit [FloatOps F] in
/-- A conjunction over the kinds of cells: the barrier's, and each channel's three. -/
theorem bigSep_kinds (Φ : CK → sProp 𝕄) :
    bigSep Finset.univ Φ = iprop(Φ none ∗ bigSep Finset.univ fun x : Fin 3 × Chan => Φ (some x)) := by
  rw [show (Finset.univ : Finset CK) = insert none (Finset.univ.map Function.Embedding.some) from by
    ext x; cases x <;> simp, bigSep_insert (by simp), bigSep_map]
  rfl

omit [FloatOps F] in
theorem bigSep_three (Φ : Fin 3 × Chan → sProp 𝕄) :
    bigSep Finset.univ Φ = bigSep Finset.univ fun dq : Chan => iprop(Φ (0, dq) ∗ Φ (1, dq) ∗ Φ (2, dq)) := by
  rw [bigSep_univ_prod, bigSep_univ_eq_bigSepL [0, 1, 2] (by decide) (by decide) (fun j => bigSep Finset.univ fun dq => Φ (j, dq)), bigSep_sep', bigSep_sep']
  rfl

end Cert.KernelIdeal

end
-- ==== Proof.Launch.lean ====
/-
# `01_k` — the launch, and the run of the program

What the launch deals every device — the rounds of its cells, the tokens of the duties it pays, the credit of the waits
it makes — from the cells' funds and from what the devices owe one another; and the run of `main`.
-/
module

public import proofs.«01_k».proof.Proof.Slots
public import Idealize.ShloMosaic.Lib.Pipeline.CollectiveSegs

@[expose] public section

set_option maxRecDepth 16384

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig ℕ (Elt F) ℕ UU ℕ

variable (m : (ℓ : Loc nD τ sig) → Buf (Elt F) ℓ) (ρ : Dev nD → PrngReg)

/-- The kernel's own semaphores: every channel's three. -/
abbrev osem (x : Fin 3 × Chan) : SemLoc sig := csem (some x)

theorem ownSemFacts : Pipeline.OwnSemFacts cfg0.spec osem := by decide +kernel

theorem share_eq (c : Dev nD) (w : Fin cfg0.W) : (dats m ρ 0 c).share w = fullShare := by unfold Dat.share; split <;> rfl

/-! ## The cells and the tokens -/

def ringCells : Finset (GSem nD τ sig) := Finset.univ.map ⟨kcell, kcell_injective⟩

/-- A payer's tokens: a barrier signal's per direction, and two per part. -/
abbrev TI : Type := Bool ⊕ (Fin 128 × Bool)

/-- The device whose cell a token pays, -/
def tokDev (c : Dev nD) : TI → Dev nD
  | .inl d => upsD d c
  | .inr (i, b) => if i.val / 2 % 2 = 0 then upsD (dirOf i.val) c else if b then dstD (dirOf i.val) c else c
/-- the kind of the cell, -/
def tokKind : TI → CK
  | .inl d => none
  | .inr (i, b) => some (if i.val / 2 % 2 = 0 then 2 else if b then 1 else 0, dirOf i.val, subOf i.val)
/-- the round and the duty: a notice's round is the one before the part's step. -/
def tokRound : TI → ℕ × Bool
  | .inl d => (0, d)
  | .inr (i, b) => if i.val / 2 % 2 = 0 then ((i.val / 16 + 7) % 8, b) else (i.val / 16, false)

abbrev tokOf (x : Dev nD × TI) : GSem nD τ sig × ℕ × Bool := (kcell (tokDev x.1 x.2, tokKind x.2), tokRound x.2)

/-- A token's kind, round and duty tell which it is: -/
theorem tok_injective : Function.Injective fun x : TI => (tokKind x, tokRound x) := by
  rintro (d | ⟨i, b⟩) (d' | ⟨i', b'⟩) h
  · exact congrArg Sum.inl (congrArg (fun y : CK × ℕ × Bool => y.2.2) h)
  · exact absurd (congrArg Prod.fst h) (fun h' => by cases h')
  · exact absurd (congrArg Prod.fst h) (fun h' => by cases h')
  · have hk : tokKind (.inr (i, b)) = tokKind (.inr (i', b')) := congrArg Prod.fst h
    have hr : tokRound (.inr (i, b)) = tokRound (.inr (i', b')) := congrArg Prod.snd h
    have hd : dirOf i.val = dirOf i'.val := by injection hk with hk; exact congrArg (fun y : Fin 3 × Chan => y.2.1) hk
    have hq : subOf i.val = subOf i'.val := by injection hk with hk; exact congrArg (fun y : Fin 3 × Chan => y.2.2) hk
    have hj : (if i.val / 2 % 2 = 0 then (2 : Fin 3) else if b then 1 else 0) = if i'.val / 2 % 2 = 0 then 2 else if b' then 1 else 0 := by
      injection hk with hk; exact congrArg Prod.fst hk
    have e := posOf_dirs i.val i.isLt
    have e' := posOf_dirs i'.val i'.isLt
    have hs := i.isLt
    have hs' := i'.isLt
    rw [hd, hq] at e
    simp only [tokRound] at hr
    unfold posOf stepOf at e e'
    simp only at e e'
    by_cases h0 : i.val / 2 % 2 = 0
    · rw [if_pos h0] at hj hr
      by_cases h0' : i'.val / 2 % 2 = 0
      · rw [if_pos h0'] at hj hr
        injection hr with hr hb
        have : i = i' := Fin.ext (by omega)
        rw [this, hb]
      · rw [if_neg h0'] at hj
        exact absurd hj (by cases b' <;> decide)
    · rw [if_neg h0] at hj hr
      by_cases h0' : i'.val / 2 % 2 = 0
      · rw [if_pos h0'] at hj
        exact absurd hj (by cases b <;> decide)
      · rw [if_neg h0'] at hj hr
        injection hr with hr hb
        have hbb : b = b' := by revert hj; cases b <;> cases b' <;> decide
        have : i = i' := Fin.ext (by omega)
        rw [this, hbb]

/-- and with the cell's device, whose payer pays it. -/
theorem tokDev_injective (x : TI) : Function.Injective fun c => tokDev c x := by
  have hu : ∀ d, Function.Injective (upsD d) := fun d a b h => by rw [← dst_ups d a, h, dst_ups]
  have hv : ∀ d, Function.Injective (dstD d) := fun d a b h => by rw [← ups_dst d a, h, ups_dst]
  rcases x with d | ⟨i, b⟩
  · exact hu d
  · intro a a' h
    simp only [tokDev] at h
    split at h
    · exact hu _ h
    · split at h
      · exact hv _ h
      · exact h

theorem tokOf_injective : Function.Injective (tokOf : Dev nD × TI → GSem nD τ sig × ℕ × Bool) := by
  rintro ⟨c, x⟩ ⟨c', x'⟩ h
  have h1 := kcell_injective (congrArg Prod.fst h)
  have hx : x = x' := tok_injective (show (tokKind x, tokRound x) = (tokKind x', tokRound x') from Prod.ext (congrArg Prod.snd h1) (show tokRound x = tokRound x' from congrArg (fun y : GSem nD τ sig × ℕ × Bool => y.2) h))
  subst hx
  exact Prod.ext (tokDev_injective x (congrArg Prod.fst h1)) rfl

def ringToks : Finset (GSem nD τ sig × ℕ × Bool) := Finset.univ.map ⟨tokOf, tokOf_injective⟩

def u₀ : UU :=
  (initOf (Pipeline.cells cfgs Gen.cellOf_inj) (Pipeline.launchToks cfgs Gen.cellOf_inj), initOf ringCells ringToks)

/-- The tokens device `c` pays with. -/
def toks (c : Dev nD) : sProp 𝕄 :=
  bigSep Finset.univ fun x : TI => dutyTok ER (tokOf (c, x)).1 (tokOf (c, x)).2.1 (tokOf (c, x)).2.2

/-- A part's two tokens are the ones the part needs. -/
theorem partTok_intro (c : Dev nD) (i : Fin 128) :
    iprop(dutyTok ER (tokOf (c, .inr (i, false))).1 (tokOf (c, .inr (i, false))).2.1 (tokOf (c, .inr (i, false))).2.2
        ∗ dutyTok ER (tokOf (c, .inr (i, true))).1 (tokOf (c, .inr (i, true))).2.1 (tokOf (c, .inr (i, true))).2.2)
      ⊢ (partTok c i.val : sProp 𝕄) := by
  have hi := i.isLt
  unfold partTok
  by_cases h0 : i.val / 2 % 2 = 0
  · rw [if_pos h0]
    by_cases hz : i.val / 16 = 0
    · rw [if_pos hz]; iintro -; iempintro
    by_cases h7 : i.val / 16 = 7
    · rw [if_neg hz, if_pos h7]; iintro -; iempintro
    rw [if_neg hz, if_neg h7]
    have e1 : tokOf (c, .inr (i, false)) = (credCell (upsD (dirOf i.val) c) (dirOf i.val) (subOf i.val), i.val / 16 - 1, false) := by
      simp only [tokOf, tokDev, tokKind, tokRound, if_pos h0]
      rw [show (i.val / 16 + 7) % 8 = i.val / 16 - 1 by omega]
    rw [e1]
    iintro ⟨H, -⟩; iexact H
  · rw [if_neg h0]
    by_cases h7 : i.val / 16 = 7
    · rw [if_pos h7]; iintro -; iempintro
    rw [if_neg h7]
    have e1 : tokOf (c, .inr (i, false)) = (sendCell c (dirOf i.val) (subOf i.val), i.val / 16, false) := by
      simp only [tokOf, tokDev, tokKind, tokRound, if_neg h0]; rfl
    have e2 : tokOf (c, .inr (i, true)) = (recvCell (dstD (dirOf i.val) c) (dirOf i.val) (subOf i.val), i.val / 16, false) := by
      simp only [tokOf, tokDev, tokKind, tokRound, if_neg h0]; rfl
    rw [e1, e2]

omit [FloatOps F] in
theorem bigSep_bool (Φ : Bool → sProp 𝕄) : bigSep Finset.univ Φ = iprop(Φ false ∗ Φ true) :=
  bigSep_univ_eq_bigSepL [false, true] (by decide) (by decide) Φ

omit [FloatOps F] in
/-- The parts as numbers below 128. -/
theorem bigSep_parts (Φ : ℕ → sProp 𝕄) : (bigSep Finset.univ fun i : Fin 128 => Φ i.val) = bigSep (Finset.Ico 0 128) Φ := by
  refine (bigSep_map (Fin.valEmbedding (n := 128)) (s := Finset.univ) (Φ := Φ)).symm.trans (congrArg (fun S => bigSep S Φ) ?_)
  ext j
  simp only [Finset.mem_map, Finset.mem_univ, true_and, Finset.mem_Ico, Fin.valEmbedding_apply]
  exact ⟨fun ⟨i, hi⟩ => hi ▸ ⟨Nat.zero_le _, i.isLt⟩, fun h => ⟨⟨j, h.2⟩, rfl⟩⟩

theorem toks_parts (c : Dev nD) : (toks c : sProp 𝕄)
    ⊢ iprop(dutyTok ER (barCell (upsD false c)) 0 false ∗ dutyTok ER (barCell (upsD true c)) 0 true
        ∗ bigSep (Finset.Ico 0 128) fun i => partTok c i) := by
  unfold toks
  rw [show (bigSep Finset.univ fun x : TI => (dutyTok ER (tokOf (c, x)).1 (tokOf (c, x)).2.1 (tokOf (c, x)).2.2 : sProp 𝕄))
      = iprop((bigSep Finset.univ fun d : Bool => dutyTok ER (tokOf (c, .inl d)).1 (tokOf (c, .inl d)).2.1 (tokOf (c, .inl d)).2.2)
        ∗ bigSep Finset.univ fun y : Fin 128 × Bool => dutyTok ER (tokOf (c, .inr y)).1 (tokOf (c, .inr y)).2.1 (tokOf (c, .inr y)).2.2) from BI.bigSep_univ_sum _,
    bigSep_bool, bigSep_univ_prod, ← bigSep_parts]
  iintro ⟨⟨H0, H1⟩, H⟩
  isplitl [H0]; · iexact H0
  isplitl [H1]; · iexact H1
  iapply (show _ ⊢ (bigSep Finset.univ fun i : Fin 128 => (partTok c i.val : sProp 𝕄)) from
    bigSep_mono fun i _ => (Entails.of_eq (bigSep_bool fun b => dutyTok ER (tokOf (c, .inr (i, b))).1 (tokOf (c, .inr (i, b))).2.1 (tokOf (c, .inr (i, b))).2.2)).trans (partTok_intro c i))
  iexact H

/-! ## The cells' funds -/

/-- What the launch element deals device `c`. -/
def G (c : Dev nD) : sProp 𝕄 :=
  iprop((bigSep Finset.univ fun k : CK => roundState ER (ringRd m ρ) (kcell (c, k)) 0)
    ∗ (bigSep Finset.univ fun k : CK => iprop(atPos ER (kcell (c, k)) 0 ∅ 0 ∗ reached ER (kcell (c, k)) 0)) ∗ toks c)

def records (K : Dev nD × CK → ℕ) : sProp 𝕄 :=
  iprop((bigSep Finset.univ fun ck : Dev nD × CK => cellInv ER (ringRd m ρ) (K ck) (kcell ck))
    ∗ bigSep Finset.univ fun ck : Dev nD × CK => reached ER (kcell ck) 0)

instance records_persistent (K : Dev nD × CK → ℕ) : BI.Persistent (records m ρ K) := by unfold records; infer_instance

/-- What the global step makes of it. -/
def G' (c : Dev nD) : sProp 𝕄 := iprop(∃ K, records m ρ K ∗ linear c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

omit [FloatOps F] in
theorem sems0_eq (c : Dev nD) :
    iprop(Pipeline.ownSems0 (Ix := ℕ) (Name := ℕ) (U := UU) (Lvl := ℕ) (Val := Elt F) (τ := τ) osem c ∗ unscopedSems0 c)
      ⊢ (bigSep Finset.univ fun k : CK => semVal (kcell (c, k)) 0 : sProp 𝕄) := by
  rw [unscopedSems0_eq, bigSep_kinds]
  unfold Pipeline.ownSems0
  iintro ⟨HS, HB⟩
  isplitl [HB]; · iexact HB
  iexact HS

theorem core_alloc (c : Dev nD) :
    iprop(Pipeline.ownSems0 (Ix := ℕ) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (ringRd m ρ) (kcell (c, k)) 0)
      ⊢ (|={Set.univ}=> bigSep Finset.univ fun k => iprop(∃ κ : ℕ, cellInv ER (ringRd m ρ) κ (kcell (c, k))) : sProp 𝕄) from by
        rw [← bigSep_sep']
        exact (bigSep_mono fun k _ => (Rounds.body_intro ER (ringRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- A device's positions and tokens. -/
theorem linear_intro (c : Dev nD) :
    iprop((bigSep Finset.univ fun k : CK => atPos ER (kcell (c, k)) 0 ∅ 0) ∗ toks c) ⊢ (linear c : sProp 𝕄) := by
  rw [bigSep_kinds, bigSep_three]
  unfold linear
  iintro ⟨⟨HB, HC⟩, Ht⟩
  ihave Ht := (toks_parts c) $$ Ht
  icases Ht with ⟨H0, H1, Hp⟩
  isplitl [HB]; · iexact HB
  isplitl [HC]; · iexact HC
  isplitl [H0]; · iexact H0
  isplitl [H1]; · iexact H1
  iexact Hp

theorem regroup :
    (bigSep Finset.univ fun c : Dev nD => iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CK => iprop(∃ κ : ℕ, cellInv ER (ringRd m ρ) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (ringRd m ρ) κ (kcell ck) : sProp 𝕄))) $$ HI
  icases HK with ⟨%K, #HI⟩
  iapply (bigSep_with (R := records m ρ K) fun c _ => show iprop(records m ρ K ∗ linear c) ⊢ G' m ρ c from by
    unfold G'; iintro H; iexists K; iexact H)
  isplitr
  · unfold records; isplitl; · iexact HI
    iexact HR
  · iapply ((Entails.of_eq (bigSep_sep' Finset.univ (fun c : Dev nD => bigSep Finset.univ fun k : CK => (atPos ER (kcell (c, k)) 0 ∅ 0 : sProp 𝕄)) toks).symm).trans
      (bigSep_mono fun c _ => linear_intro c))
    isplitl [Hat]; · iexact Hat
    iexact Htok

/-- The global step: own and unscoped semaphores of every device at once. -/
theorem glob : (bigSep Finset.univ fun c => iprop(Pipeline.ownSems0 (Ix := ℕ) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- What part `j` of the others pays device `c`. -/
def arrive (c : Dev nD) (j : ℕ) : sProp 𝕄 :=
  if j / 2 % 2 = 0 then
    if j / 16 = 0 then iprop(emp) else if j / 16 = 7 then iprop(emp) else cred (tallyAt (credCell c (dirOf j) (subOf j)) (j / 16 - 1) 1)
  else if j / 16 = 7 then iprop(emp) else cred (tallyAt (recvCell c (dirOf j) (subOf j)) (j / 16) N)

omit [FloatOps F] in
theorem arrive_part (c : Dev nD) (j : ℕ) (hj : j < 128) : (Pipeline.launchCred (partOwe j) c : sProp 𝕄) ⊢ arrive c j := by
  have hs : (stepOf j).val = j / 16 := by show j / 16 % 8 = j / 16; omega
  unfold arrive
  by_cases h0 : j / 2 % 2 = 0
  · rw [if_pos h0]
    by_cases hz : j / 16 = 0
    · rw [if_pos hz]; iintro -; iempintro
    by_cases h7 : j / 16 = 7
    · rw [if_neg hz, if_pos h7]; iintro -; iempintro
    rw [if_neg hz, if_neg h7]
    rw [show partOwe j = fun e => tallyAt (credCell (upsD (dirOf j) e) (dirOf j) (subOf j)) (j / 16 - 1) 1 from funext fun e => by
      unfold partOwe compOwe
      rw [if_pos h0, hs, if_neg hz, if_neg h7]]
    exact Pipeline.launchCred_tallyAt _ (upsD (dirOf j)) (dstD (dirOf j)) (ups_dst _) (dst_ups _) _ _ c
  · rw [if_neg h0]
    by_cases h7 : j / 16 = 7
    · rw [if_pos h7]; iintro -; iempintro
    rw [if_neg h7]
    rw [show partOwe j = fun e => tallyAt (recvCell (dstD (dirOf j) e) (dirOf j) (subOf j)) (j / 16) N from funext fun e => by
      unfold partOwe sendOwe
      rw [if_neg h0, hs, if_neg h7]]
    exact Pipeline.launchCred_tallyAt _ (dstD (dirOf j)) (upsD (dirOf j)) (dst_ups _) (ups_dst _) _ _ c

/-- The part that waits for what part `j` of the others pays: for a notice, the same step's sending part; for a message,
    the next step's computing part. -/
def waiter (j : ℕ) : ℕ := if j / 2 % 2 = 0 then j + 2 else (j + 14) % 128

theorem waiter_image : (Finset.Ico 0 128).image waiter = Finset.Ico 0 128 := by decide +kernel
theorem waiter_injOn : Set.InjOn waiter (Finset.Ico 0 128 : Finset ℕ) := by
  intro a ha b hb h
  have ha' := (Finset.mem_Ico.mp (Finset.mem_coe.mp ha)).2
  have hb' := (Finset.mem_Ico.mp (Finset.mem_coe.mp hb)).2
  unfold waiter at h
  split at h <;> split at h <;> omega

omit [FloatOps F] in
theorem arrive_waiter (c : Dev nD) (j : ℕ) (hj : j < 128) : arrive c j ⊢ (partCred c (waiter j) : sProp 𝕄) := by
  unfold arrive partCred waiter
  by_cases h0 : j / 2 % 2 = 0
  · rw [if_pos h0, if_pos h0, if_neg (show ¬(j + 2) / 2 % 2 = 0 by omega), show (j + 2) / 16 = j / 16 by omega]
    by_cases h7 : j / 16 = 7
    · rw [if_pos h7, if_pos h7]; iintro -; iempintro
    by_cases hz : j / 16 = 0
    · rw [if_neg h7, if_neg h7, if_pos hz, if_pos hz]
    rw [if_neg h7, if_neg h7, if_neg hz, if_neg hz, show dirOf (j + 2) = dirOf j from by unfold dirOf; exact decide_eq_decide.mpr (by omega),
      show subOf (j + 2) = subOf j from by unfold subOf; exact Fin.ext (by show (j + 2) / 4 % 4 = j / 4 % 4; omega)]
  · rw [if_neg h0, if_neg h0, if_pos (show (j + 14) % 128 / 2 % 2 = 0 by omega)]
    by_cases h7 : j / 16 = 7
    · rw [if_pos (show (j + 14) % 128 / 16 = 0 by omega)]; iintro -; iempintro
    rw [if_neg h7, if_neg (show ¬(j + 14) % 128 / 16 = 0 by omega), show (j + 14) % 128 / 16 - 1 = j / 16 by omega,
      show dirOf ((j + 14) % 128) = dirOf j from by unfold dirOf; exact decide_eq_decide.mpr (by omega),
      show subOf ((j + 14) % 128) = subOf j from by unfold subOf; exact Fin.ext (by show (j + 14) % 128 / 4 % 4 = j / 4 % 4; omega)]

omit [FloatOps F] in
/-- What all parts of the others pay is what all parts wait for. -/
theorem parts_creds (c : Dev nD) : (bigSep (Finset.Ico 0 128) fun j => (Pipeline.launchCred (partOwe j) c : sProp 𝕄)) ⊢ bigSep (Finset.Ico 0 128) fun i => partCred c i := by
  have h : (bigSep (Finset.Ico 0 128) fun j => (Pipeline.launchCred (partOwe j) c : sProp 𝕄)) ⊢ bigSep (Finset.Ico 0 128) fun j => partCred c (waiter j) :=
    bigSep_mono fun j hj => (arrive_part c j (Finset.mem_Ico.mp hj).2).trans (arrive_waiter c j (Finset.mem_Ico.mp hj).2)
  have e := bigSep_image_of_injOn waiter_injOn (fun i => (partCred c i : sProp 𝕄))
  rw [waiter_image] at e
  rw [e]
  exact h

omit [FloatOps F] in
theorem cred_two (c : Dev nD) : (iprop(cred (tallyAt (barCell c) 0 1) ∗ cred (tallyAt (barCell c) 0 1)) : sProp 𝕄) ⊢ cred (tallyAt (barCell c) 0 2) := by
  have h := (cred_add (Val := Elt F) (Name := ℕ) (U := UU) (Lvl := ℕ) (tallyAt (barCell c) (0 : ℕ) 1) (tallyAt (barCell c) 0 1)).2
  rw [tallyAt_add] at h
  exact h

omit [FloatOps F] in
theorem creds (c : Dev nD) :
    (Pipeline.launchCred O₀ c : sProp 𝕄) ⊢ iprop(cred (tallyAt (barCell c) 0 2) ∗ bigSep (Finset.Ico 0 128) fun i => partCred c i) := by
  rw [show (O₀ : Dev nD → CellTallies nD τ sig ℕ) = fun e => (fun e' => (∑ j ∈ Finset.Ico 0 128, partOwe j e') + tallyAt (barCell (upsD true e')) 0 1) e + tallyAt (barCell (upsD false e)) 0 1 from rfl,
    Pipeline.launchCred_add, Pipeline.launchCred_add, Pipeline.launchCred_sum]
  have hb (d : Dir) := Pipeline.launchCred_tallyAt (τ := τ) (Val := Elt F) (Name := ℕ) (U := UU) (Lvl := ℕ) (SemLoc.reg barS) (upsD d) (dstD d) (ups_dst d) (dst_ups d) 0 1 c
  iintro ⟨⟨Hp, H1⟩, H0⟩
  ihave H1 := (hb true) $$ H1
  ihave H0 := (hb false) $$ H0
  isplitl [H0 H1]
  · iapply (cred_two c)
    isplitl [H0] <;> iassumption
  · iapply (parts_creds c)
    iexact Hp

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold G' records start ctx
  iintro ⟨-, Hlev, Hcr, -, ⟨%K, ⟨HI, HR⟩, Hl⟩⟩
  ihave Hc := (creds (F := F) c) $$ Hcr
  icases Hc with ⟨H1, HN⟩
  imodintro
  isplitl
  · isplitl [HI HR Hlev Hl]
    · iexists K
      isplitl [HI HR Hlev]
      · isplitl [HI]; · iexact HI
        isplitl [HR]; · iexact HR
        iexact Hlev
      iexact Hl
    isplitl [H1]; · iexact H1
    iexact HN
  · iempintro

omit [FloatOps F] in
/-- The scratch buffers, each whole, -/
theorem scratch_eq (c : Dev nD) : (Pipeline.scopedRest (Ix := ℕ) (Name := ℕ) (U := UU) (Lvl := ℕ) (Val := Elt F) cfg0.spec c : sProp 𝕄)
    = iprop((∃ f : Buf (Elt F) ((accM false).view.loc (c : Thread nD τ)), (accM false).view.loc (c : Thread nD τ) ↦{fullShare} f)
      ∗ (∃ f : Buf (Elt F) ((accM true).view.loc (c : Thread nD τ)), (accM true).view.loc (c : Thread nD τ) ↦{fullShare} f)
      ∗ (∃ f : Buf (Elt F) ((rbufM false).view.loc (c : Thread nD τ)), (rbufM false).view.loc (c : Thread nD τ) ↦{fullShare} f)
      ∗ (∃ f : Buf (Elt F) ((rbufM true).view.loc (c : Thread nD τ)), (rbufM true).view.loc (c : Thread nD τ) ↦{fullShare} f)) :=
  Gen.scopedRest0_eq c

omit [FloatOps F] in
/-- are the slots, -/
theorem slots_intro (c : Dev nD) :
    (Pipeline.scopedRest (Ix := ℕ) (Name := ℕ) (U := UU) (Lvl := ℕ) (Val := Elt F) cfg0.spec c : sProp 𝕄) ⊢ slots c := by
  rw [scratch_eq]
  unfold slots
  rw [bigSep_chan, bigSep_chan]
  iintro ⟨H0, H1, H2, H3⟩
  isplitl [H0 H1]
  · isplitl [H0]
    · iapply (whole_split (accM false) c (accM_set false)); iexact H0
    · iapply (whole_split (accM true) c (accM_set true)); iexact H1
  · isplitl [H2]
    · iapply (whole_split (rbufM false) c (rbufM_set false)); iexact H2
    · iapply (whole_split (rbufM true) c (rbufM_set true)); iexact H3

omit [FloatOps F] in
include m in
/-- and the slots the buffers again. -/
theorem slots_exit (c : Dev nD) :
    slots c ⊢ (Pipeline.scopedRest (Ix := ℕ) (Name := ℕ) (U := UU) (Lvl := ℕ) (Val := Elt F) cfg0.spec c : sProp 𝕄) := by
  rw [scratch_eq]
  unfold slots
  rw [bigSep_chan, bigSep_chan]
  iintro ⟨⟨H0, H1⟩, H2, H3⟩
  isplitl [H0]; · iapply (whole_join (accM false) c (accM_set false) (m _)); iexact H0
  isplitl [H1]; · iapply (whole_join (accM true) c (accM_set true) (m _)); iexact H1
  isplitl [H2]; · iapply (whole_join (rbufM false) c (rbufM_set false) (m _)); iexact H2
  iapply (whole_join (rbufM true) c (rbufM_set true) (m _)); iexact H3

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, Hr⟩
  isplitl [Hs]; · iexact Hs
  iapply (slots_intro c); iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, unscopedSems0_eq]
  unfold Φ₁ Pipeline.ownSems0
  rw [bigSep_three]
  iintro ⟨Hr, Hz, HzB⟩
  isplitl [HzB]; · iexact HzB
  isplitl [Hz]; · iexact Hz
  iapply (slots_exit m c); iexact Hr

theorem waits (c : Dev nD) : (levAts L lv : sProp 𝕄) ⊢ Pipeline.cellsWaits cfgs (dats m ρ) 0 0 c :=
  Pipeline.cellsWaits_intro cfgs (dats m ρ) 0 0 c fun w s t =>
    mayWait_stage c _ (by fin_cases w <;> fin_cases s <;> decide +kernel) _ (by
      rcases t with ⟨_ | _, ht⟩
      · exact Or.inl rfl
      · exact Or.inr rfl)

/-! ## The run -/

/-- What a window's array holds in the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- On eight devices, for any float values, from any memory with zero counters: every weakly fair execution of `main`
    terminates, and every final state has each device's arrays at the stated contents and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 Gen.cellOf_inj (0 : Fin 1)
    Gen.winFacts0.to₀ ownSemFacts (Pipeline.PreFacts.none _) EP defs₀ 𝒱₀ m ρ main
    (hmain := fun _ => rfl)
    (hbody := body_obligation m ρ) (hne := fun w => by fin_cases w <;> exact Nat.succ_pos _) (harr := Gen.arr_whole0) (hstage := Gen.stage_whole0) (hshare := share_eq m ρ)
    (hdistinct := Gen.winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The four argument arrays end as they began. -/
theorem args_kept {r : PUnit × MemSt nD τ sig (Elt F)} (h : QC m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(h c 0).trans ((dats (F := F) m ρ 0 c).arrAt_in (0 : Fin 5) rfl _), (h c 1).trans ((dats (F := F) m ρ 0 c).arrAt_in (1 : Fin 5) rfl _),
    (h c 2).trans ((dats (F := F) m ρ 0 c).arrAt_in (2 : Fin 5) rfl _), (h c 3).trans ((dats (F := F) m ρ 0 c).arrAt_in (3 : Fin 5) rfl _)⟩

end Cert.KernelIdeal

end
-- ==== Proof.Same.lean ====
/-
# `01_k` — the printed kernel and the idealized kernel are one program

No rule rewrote an operation: the two printed texts differ in their namespace alone. So their body tables and their
`main`s are equal at any float values, and what is proved of one program's runs holds of the other's.
-/
module
public import proofs.«01_k».proof.Defs
public import proofs.«01_k».proof.Proof.Gen.Kernel
public import proofs.«01_k».proof.Proof.Gen.KernelIdeal
@[expose] public section
noncomputable section
namespace Cert.Same

open Idealize.ShloMosaic Idealize.SL.Sem

variable {F : FTy → Type} [FloatOps F]

set_option maxHeartbeats 1000000 in
/-- The two printed bodies are the same sequence of operations. -/
theorem body_eq : @Cert.Kernel.cc0_body F _ Kernel.Gen.facts = @Cert.KernelIdeal.cc0_body F _ KernelIdeal.Gen.facts := rfl

/-- The two kernels' body tables are equal. -/
theorem defs₀_eq : Cert.Kernel.defs₀ (F := F) = Cert.KernelIdeal.defs₀ := by
  unfold Kernel.defs₀ KernelIdeal.defs₀
  rw [body_eq]
  refine congrArg Defs.onTc (funext fun ℓ => funext fun a => ?_)
  match ℓ, a with
  | 0, (t, s) => rfl
  | ⟨_ + 1, h⟩, _ => exact absurd h (Nat.not_lt.2 (Nat.le_add_left _ _))

/-- The two programs' body tables are equal. -/
theorem defs_eq : Cert.Kernel.defs (F := F) = Cert.KernelIdeal.defs := by
  unfold Kernel.defs KernelIdeal.defs
  rw [defs₀_eq]
  rfl

/-- The two `main`s are equal. -/
theorem main_eq : Cert.Kernel.main (F := F) = Cert.KernelIdeal.main := rfl

end Cert.Same

end
-- ==== Proof.Value.lean ====
/-
# `01_k` — what the kernel computes

Each channel's partial sum is a word: the products of the devices it has passed, added modulo `2³²`. After eight steps
it is the sum over all eight devices, of one row block; that sum is less than `2³¹`, so the word read as an integer is it.
-/
module

public import proofs.«01_k».proof.Proof.Launch
public import Idealize.ShloMosaic.Lib.IntMxu
public import Idealize.ShloMosaic.Lib.MatmulPlain
public import Idealize.ShloMosaic.Lib.Pipeline.Value
public import Idealize.ShloMosaic.Lib.Layout

@[expose] public section

set_option maxRecDepth 16384

noncomputable section

namespace Cert.KernelIdeal

open Idealize.ShloMosaic Idealize.ShloMosaic.TcCoe Idealize.ShloMosaic.ValueIdx Idealize.SL.Sem
open Idealize.ShloMosaic.Pipeline (Dat Cfg Window)

variable {F : FTy → Type} [FloatOps F]
variable (m : (ℓ : Loc nD τ sig) → Buf (Elt F) ℓ) (ρ : Dev nD → PrngReg)

/-! ## A plain product of words, read at an index -/

/-- A plain integer product at row `r` and column `c` is the sum over the contracted coordinate. -/
theorem dotI8_plain {M K N : ℕ} (lhs : IVec ⟨2, ![M, K]⟩ 8) (rhs : IVec ⟨2, ![K, N]⟩ 8) (r : Fin M) (c : Fin N) :
    dotI8 (DotDims.plain M K N) lhs rhs (ix2 r c) = ∑ k : Fin K, (lhs (ix2 r k)).toInt * (rhs (ix2 k c)).toInt := by
  unfold dotI8
  rw [← Equiv.sum_comp (DotDims.plainContr M K N).symm]
  refine Finset.sum_congr rfl fun k _ => ?_
  have hk := contrEquiv1_symm_val _ K (DotDims.plain_contr_rank M K N) (DotDims.plain_contr_size M K N) k
  refine congrArg₂ (fun a b : BitVec 8 => a.toInt * b.toInt) (congrArg lhs ?_) (congrArg rhs ?_)
  · funext a; apply Fin.ext
    match a with
    | ⟨0, _⟩ => rfl
    | ⟨1, _⟩ => exact hk
  · funext a; apply Fin.ext
    match a with
    | ⟨0, _⟩ => exact hk
    | ⟨1, _⟩ => rfl

/-! ## The operands -/

/-- A device's part of `x`, -/
def X (c : Dev nD) : IVec S4096x512 8 := m ((c : Thread nD τ).loc main_arg0)
/-- and of `w`. -/
def W (c : Dev nD) : IVec S512x8192 8 := m ((c : Thread nD τ).loc main_arg1)

theorem xstg_eq (c : Dev nD) : xstg m ρ c = X m c :=
  Memref.read_access_unit_zero (Elt F) main_arg0 (off := fun a => win0_0.index (0 : Fin 1) a * main_arg0.ty.shape.size a)
    (funext fun a => by fin_cases a <;> decide) (fun a => by fin_cases a <;> decide) _
theorem wstg_eq (c : Dev nD) : wstg m ρ c = W m c :=
  Memref.read_access_unit_zero (Elt F) main_arg1 (off := fun a => win0_1.index (0 : Fin 1) a * main_arg1.ty.shape.size a)
    (funext fun a => by fin_cases a <;> decide) (fun a => by fin_cases a <;> decide) _
theorem sxstg_eq (c : Dev nD) : sxstg m ρ c = m ((c : Thread nD τ).loc main_arg2) :=
  Memref.read_access_unit_zero (Elt F) main_arg2 (off := fun a => win0_2.index (0 : Fin 1) a * main_arg2.ty.shape.size a)
    (funext fun a => by fin_cases a <;> decide) (fun a => by fin_cases a <;> decide) _
theorem swstg_eq (c : Dev nD) : swstg m ρ c = m ((c : Thread nD τ).loc main_arg3) :=
  Memref.read_access_unit_zero (Elt F) main_arg3 (off := fun a => win0_3.index (0 : Fin 1) a * main_arg3.ty.shape.size a)
    (funext fun a => by fin_cases a <;> decide) (fun a => by fin_cases a <;> decide) _

/-- The row block of `x` a device multiplies at a step. -/
def rowB (d : Dir) (s : Fin 8) (c : Dev nD) : Fin 8 := ⟨(c.val + (1 + (rowIx d s).val)) % 8, Nat.mod_lt _ (by decide)⟩

/-- A row of a row block, -/
def rowAt (b : Fin 8) (i : Fin 512) : Fin 4096 := ⟨512 * b.val + i.val, by omega⟩
/-- and a column of a channel. -/
def colAt (d : Dir) (q : Fin 4) (j : Fin 1024) : Fin 8192 := ⟨colOf d q + j.val, by have h := colOf_inb d q 1; have e : colOf d q + 1024 ≤ 8192 := h; omega⟩

theorem off1_eq (c : Dev nD) (r : Fin 15) :
    k0_off1 c (BitVec.ofNat 32 (1 + r.val)) = ![512 * ((c.val + (1 + r.val)) % 8), 0] := by
  revert c r; decide +kernel

theorem xBlk_apply (d : Dir) (s : Fin 8) (c : Dev nD) (i k : Fin 512) :
    xBlk m ρ d s c (ix2 i k) = X m c (ix2 (rowAt (rowB d s c) i) k) := by
  unfold xBlk
  rw [xstg_eq]
  show X m c ((rowR c d s).idx (ix2 i k)) = _
  refine congrArg (X m c) (funext fun a => Fin.ext ?_)
  have ho := off1_eq c (rowIx d s)
  match a with
  | ⟨0, _⟩ =>
    show k0_off1 c (BitVec.ofNat 32 (1 + (rowIx d s).val)) 0 + 1 * i.val = 512 * ((c.val + (1 + (rowIx d s).val)) % 8) + i.val
    rw [ho, Nat.one_mul]; rfl
  | ⟨1, _⟩ =>
    show k0_off1 c (BitVec.ofNat 32 (1 + (rowIx d s).val)) 1 + 1 * k.val = k.val
    rw [ho, Nat.one_mul]; exact Nat.zero_add _

theorem wBlk_apply (d : Dir) (q : Fin 4) (c : Dev nD) (k : Fin 512) (j : Fin 1024) :
    wBlk m ρ d q c (ix2 k j) = W m c (ix2 k (colAt d q j)) := by
  unfold wBlk
  rw [wstg_eq]
  show W m c ((colR d q).idx (ix2 k j)) = _
  refine congrArg (W m c) (funext fun a => Fin.ext ?_)
  match a with
  | ⟨0, _⟩ => show 0 + 1 * k.val = k.val; omega
  | ⟨1, _⟩ => show colOf d q + 1 * j.val = colOf d q + j.val; omega

/-! ## The partial sums -/

/-- Device `e`'s product at row `i` of row block `b` and column `J`. -/
def part (b : Fin 8) (i : Fin 512) (J : Fin 8192) (e : Dev nD) : ℤ :=
  ∑ k : Fin 512, (X m e (ix2 (rowAt b i) k)).toInt * (W m e (ix2 k J)).toInt

theorem part_bound (b : Fin 8) (i : Fin 512) (J : Fin 8192) (e : Dev nD) : |part m b i J e| ≤ 2 ^ 23 := by
  unfold part
  refine (Finset.abs_sum_le_sum_abs _ _).trans ?_
  have h : ∀ k ∈ (Finset.univ : Finset (Fin 512)), |(X m e (ix2 (rowAt b i) k)).toInt * (W m e (ix2 k J)).toInt| ≤ 2 ^ 14 := by
    intro k _
    rw [abs_mul, Int.abs_eq_natAbs, Int.abs_eq_natAbs]
    have h1 := natAbs_toInt_i8_le (X m e (ix2 (rowAt b i) k))
    have h2 := natAbs_toInt_i8_le (W m e (ix2 k J))
    exact_mod_cast (Nat.mul_le_mul h1 h2)
  have := Finset.sum_le_card_nsmul Finset.univ _ _ h
  simpa using this

theorem product_word (d : Dir) (q : Fin 4) (s : Fin 8) (c : Dev nD) (i : Fin 512) (j : Fin 1024) :
    Gen.k0_pay19 (xBlk m ρ d s c) (wBlk m ρ d q c) (ix2 i j) = BitVec.ofInt 32 (part m (rowB d s c) i (colAt d q j) c) := by
  unfold Gen.k0_pay19
  rw [shapeCast_self, shapeCast_self]
  refine (matmulI8_exact_of_numel _ (DotDims.plain 512 512 1024) _ _ _ _ rfl (by decide +kernel)).trans ?_
  rw [dotI8_plain]
  unfold part
  simp only [xBlk_apply, wBlk_apply]

/-- A partial sum as a matrix. -/
def flat (v : Vec F S1x512x1024 .i32) : IVec S512x1024 32 := shapeCast S512x1024 v Gen.shapeCasts_S1x512x1024_S512x1024

theorem flat_first (x : Vec F S512x512 .i8) (w : Vec F S512x1024 .i8) : flat (F := F) (firstSum x w) = Gen.k0_pay19 x w :=
  shapeCast_shapeCast _ _ _
theorem flat_next (x : Vec F S512x512 .i8) (w : Vec F S512x1024 .i8) (r : Vec F S1x512x1024 .i32) :
    flat (F := F) (nextSum x w r) = addi (flat r) (Gen.k0_pay19 x w) :=
  shapeCast_shapeCast _ _ _

theorem rowB_next (d : Dir) (s : Fin 8) (h : s.val < 7) (c : Dev nD) : rowB d s (upsD d c) = rowB d (stepN (s.val + 1)) c := by
  revert d s c; decide +kernel
theorem rowB_last (d : Dir) (c : Dev nD) : rowB d 7 c = c := by
  revert d c; decide +kernel

/-- After step `s` a device's partial sum is the sum of its product and of those of the devices upstream, of the row block
    it multiplied at that step. -/
theorem val_word (d : Dir) (q : Fin 4) (i : Fin 512) (j : Fin 1024) (s : ℕ) (hs : s < 8) (c : Dev nD) :
    flat (F := F) (val m ρ d q s c) (ix2 i j)
      = BitVec.ofInt 32 (∑ t ∈ Finset.range (s + 1), part m (rowB d (stepN s) c) i (colAt d q j) ((upsD d)^[t] c)) := by
  induction s generalizing c with
  | zero =>
    show flat (F := F) (firstSum _ _) _ = _
    rw [flat_first, product_word]
    simp [stepN]
  | succ s ih =>
    show flat (F := F) (nextSum _ _ _) _ = _
    rw [flat_next]
    show _ + _ = _
    rw [ih (by omega), product_word, ← BitVec.ofInt_add, Finset.sum_range_succ' _ (s + 1)]
    have hr := rowB_next d (stepN s) (by show s % 8 < 7; omega) c
    have e : stepN ((stepN s).val + 1) = stepN (s + 1) := Fin.ext (by show (s % 8 + 1) % 8 = (s + 1) % 8; omega)
    rw [hr, e]
    rfl

/-- Eight steps upstream pass every device once. -/
theorem ring_bij (d : Dir) (c : Dev nD) : Function.Bijective fun t : Fin 8 => (upsD d)^[t.val] c := by
  revert d c; decide +kernel

theorem ring_sum (d : Dir) (c : Dev nD) (f : Dev nD → ℤ) : ∑ t ∈ Finset.range 8, f ((upsD d)^[t] c) = ∑ e : Dev nD, f e := by
  rw [Finset.sum_range]
  exact (ring_bij d c).sum_comp f

/-- After the last step a device's sum, read as an integer, is that of all eight devices' products for its own row block. -/
theorem val_last (d : Dir) (q : Fin 4) (i : Fin 512) (j : Fin 1024) (c : Dev nD) :
    (flat (F := F) (val m ρ d q 7 c) (ix2 i j)).toInt = ∑ e : Dev nD, part m c i (colAt d q j) e := by
  rw [val_word m ρ d q i j 7 (by decide) c, ring_sum d c]
  have hb : |∑ e : Dev nD, part m (rowB d (stepN 7) c) i (colAt d q j) e| ≤ 2 ^ 26 := by
    refine (Finset.abs_sum_le_sum_abs _ _).trans ?_
    have := Finset.sum_le_card_nsmul (Finset.univ : Finset (Dev nD)) _ _ fun e _ => part_bound m (rowB d (stepN 7) c) i (colAt d q j) e
    simpa using this
  have e7 : stepN 7 = 7 := rfl
  rw [e7, rowB_last] at hb ⊢
  rw [BitVec.toInt_ofInt]
  rw [abs_le] at hb
  apply Int.bmod_eq_of_le <;> omega

/-! ## The result -/

/-- The result array after the run is what the body left in its staging buffer. -/
theorem finalA_out (c : Dev nD) : finalA m ρ c (4 : Fin 5) = outAt m ρ c := by
  have ho : ((cfg0.win (4 : Fin 5)).blk t₀).view.read (Elt F) ((dats (F := F) m ρ 0 c).arrAt (4 : Fin 5) cfg0.N)
      = (dats (F := F) m ρ 0 c).flushed (4 : Fin 5) t₀ := by
    rw [show cfg0.N = (t₀ : Fin cfg0.N).val + 1 from cfg0_N, (dats (F := F) m ρ 0 c).arrAt_succ (4 : Fin 5) t₀]
    rw [show (cfg0.win (4 : Fin 5)).flush t₀ = true from by decide, if_pos rfl]
    exact View.read_write_univ _ _
  have hz : (fun a => (win0_4.index t₀) a * main_v1.ty.shape.size a) = fun _ => 0 := funext fun a => by fin_cases a <;> decide
  have hr := fun f => Memref.read_access_unit_zero (Elt F) main_v1 hz (fun a => by fin_cases a <;> decide) f
  rw [hr] at ho
  exact ho

theorem colAt_eq (J : Fin 8192) : colAt (colDir J.val) (colSub J.val) ⟨J.val % 1024, Nat.mod_lt _ (by decide)⟩ = J := by
  have h := J.isLt
  apply Fin.ext
  show colOf (colDir J.val) (colSub J.val) + J.val % 1024 = J.val
  unfold colOf colDir colSub
  simp only [decide_eq_true_eq]
  split <;> omega

end Cert.KernelIdeal

namespace Cert.KernelIdeal.AtIdeal

open Idealize.ShloMosaic Idealize.ShloMosaic.TcCoe Idealize.ShloMosaic.ValueIdx Idealize.SL.Sem

variable (m : (ℓ : Loc nD τ sig) → Buf (Elt Ideal) ℓ) (ρ : Dev nD → PrngReg)

/-- The two scales of a device, multiplied. -/
def factor (c : Dev nD) : EReal :=
  let a : FVec Ideal S1 .f32 := m ((c : Thread nD τ).loc main_arg2)
  let b : FVec Ideal S1 .f32 := m ((c : Thread nD τ).loc main_arg3)
  a (ix1 0) * b (ix1 0)

theorem idx1_eq (i j : S1.Idx) : i = j := by
  funext a; apply Fin.ext
  match a with
  | ⟨0, h⟩ =>
    have hi : (i ⟨0, h⟩).val < 1 := (i ⟨0, h⟩).isLt
    have hj : (j ⟨0, h⟩).val < 1 := (j ⟨0, h⟩).isLt
    omega

theorem scale_eq (c : Dev nD) : scale m ρ c = factor m c := by
  unfold scale factor
  rw [sxstg_eq, swstg_eq]
  unfold Gen.k0_pay2
  show _ * _ = _ * _
  exact congrArg₂ (fun a b : EReal => a * b) (congrArg (m ((c : Thread nD τ).loc main_arg2)) (idx1_eq _ _))
    (congrArg (m ((c : Thread nD τ).loc main_arg3)) (idx1_eq _ _))

/-- The result of the last step at an index, over the reals. -/
theorem lastOut_apply (sc : EReal) (x : Vec Ideal S512x512 .i8) (w : Vec Ideal S512x1024 .i8) (r : Vec Ideal S1x512x1024 .i32) (i : S512x1024.Idx) :
    (lastOut (F := Ideal) sc x w r i : EReal) = max ((((flat (F := Ideal) (nextSum x w r) i).toInt : ℝ) : EReal) * sc) 0 := by
  rw [flat_next, ← Ideal.ofBits_zero_f32]
  rfl

/-- A device's result at an index: the dequantized sum of all eight devices' products for its row block, or zero. -/
theorem outAt_apply (c : Dev nD) (i : Fin 512) (J : Fin 8192) :
    (outAt m ρ c (ix2 i J) : EReal) = max ((((∑ e : Dev nD, part m c i J e : ℤ) : ℝ) : EReal) * factor m c) 0 := by
  have hi : colIdx (ix2 i J) = ix2 i ⟨J.val % 1024, Nat.mod_lt _ (by decide)⟩ := by
    funext a; apply Fin.ext
    match a with
    | ⟨0, _⟩ => rfl
    | ⟨1, _⟩ => rfl
  have hv := val_last m ρ (colDir J.val) (colSub J.val) i ⟨J.val % 1024, Nat.mod_lt _ (by decide)⟩ c
  rw [colAt_eq] at hv
  rw [← hv, ← scale_eq m ρ c, ← hi]
  exact lastOut_apply _ _ _ _ _

end Cert.KernelIdeal.AtIdeal

end
-- ==== Proof.Agree.lean ====
/-
# `01_k` — the kernel's result is the reference's block

The reference's product over all 4096 columns of `x` is the sum over the eight devices of the products over their 512,
each a product of integers; the two scales and the maximum with zero are the same.
-/
module

public import proofs.«01_k».proof.Defs
public import proofs.«01_k».proof.Proof.Value
public import proofs.«01_k».proof.Proof.Gen.ReferenceIdeal.Run
public import Idealize.ShloMosaic.Lib.StackMember

@[expose] public section

set_option maxRecDepth 16384

noncomputable section

namespace Cert.Agree

open Idealize.ShloMosaic Idealize.ShloMosaic.TcCoe Idealize.ShloMosaic.ValueIdx Idealize.SL.Sem
open Cert.ReferenceIdeal (S1 S1x1 S4096x4096 S4096x8192)
open Cert.ReferenceIdeal.Gen

/-- The reference's result, of its arguments. -/
def refOut (x : IVec S4096x4096 8) (w : IVec S4096x8192 8) (a b : FVec Ideal S1 .f32) : FVec Ideal S4096x8192 .f32 :=
  maximumf (mulf (Host.dotGeneral Cert.ReferenceIdeal.dot_S4096x4096_S4096x8192_S4096x8192_1_0_0_1_n_n none
      (sitofp .f32 (extsi 32 x natLt_8_32)) (sitofp .f32 (extsi 32 w natLt_8_32)))
    (broadcastInDim S4096x8192 ![0, 1] bcast_S1x1_S4096x8192_0_1 (broadcastInDim S1x1 ![1] bcast_S1_S1x1_1 (mulf a b))))
    (broadcastInDim S4096x8192 ![] bcast_S_S4096x8192 (constant Cert.ReferenceIdeal.S_ .f32 0x00000000#32))

/-- A signed byte, widened and read as a real, is its integer. -/
theorem sitofp_extsi {s : Shape} (x : IVec s 8) (i : s.Idx) :
    ((sitofp .f32 (extsi 32 x natLt_8_32) : FVec Ideal s .f32) i : EReal) = (((x i).toInt : ℝ) : EReal) := by
  show ((((x i).signExtend 32).toInt : ℝ) : EReal) = _
  rw [BitVec.toInt_signExtend_of_le (by decide)]

/-- A sum of integers is the real sum. -/
theorem coe_sum {ι : Type} (s : Finset ι) (f : ι → ℤ) : (((∑ k ∈ s, f k : ℤ) : ℝ) : EReal) = ∑ k ∈ s, (((f k : ℤ) : ℝ) : EReal) := by
  classical
  induction s using Finset.induction_on with
  | empty => simp
  | insert a s h ih => rw [Finset.sum_insert h, Finset.sum_insert h, ← ih, ← EReal.coe_add, Int.cast_add]

/-- The reference's result at an index. -/
theorem refOut_apply (x : IVec S4096x4096 8) (w : IVec S4096x8192 8) (a b : FVec Ideal S1 .f32) (I : Fin 4096) (J : Fin 8192) :
    (refOut x w a b (ix2 I J) : EReal)
      = max ((((∑ k : Fin 4096, (x (ix2 I k)).toInt * (w (ix2 k J)).toInt : ℤ) : ℝ) : EReal) * (a (ix1 0) * b (ix1 0))) 0 := by
  have hd : (Host.dotGeneral (DotDims.plain 4096 4096 8192) none (sitofp .f32 (extsi 32 x natLt_8_32) : FVec Ideal S4096x4096 .f32)
      (sitofp .f32 (extsi 32 w natLt_8_32) : FVec Ideal S4096x8192 .f32) (ix2 I J) : EReal)
      = (((∑ k : Fin 4096, (x (ix2 I k)).toInt * (w (ix2 k J)).toInt : ℤ) : ℝ) : EReal) := by
    rw [StackMember.dotGeneral_plain_apply, coe_sum]
    refine Finset.sum_congr rfl fun k _ => ?_
    rw [Int.cast_mul, EReal.coe_mul]
    exact congrArg₂ (fun u v : EReal => u * v) (sitofp_extsi x _) (sitofp_extsi w _)
  rw [← hd, ← Ideal.ofBits_zero_f32]
  unfold refOut
  show max (_ * (a _ * b _)) _ = _
  have h1 : ∀ i : S1.Idx, i = ix1 0 := fun i => Cert.KernelIdeal.AtIdeal.idx1_eq _ _
  exact congrArg₂ (fun u v : EReal => max u v)
    (congrArg₂ (fun u v : EReal => u * v) rfl (congrArg₂ (fun u v : EReal => u * v) (congrArg a (h1 _)) (congrArg b (h1 _)))) rfl

/-! ## The blocks -/

/-- A sum over the 4096 contracted positions, by device and position in its 512. -/
theorem sum_devices (f : Fin 4096 → ℤ) :
    ∑ k : Fin 4096, f k = ∑ e : Fin 8, ∑ k : Fin 512, f (Cert.KernelIdeal.rowAt e k) := by
  rw [← Fintype.sum_prod_type' (f := fun e k => f (Cert.KernelIdeal.rowAt e k))]
  refine (Fintype.sum_equiv (finProdFinEquiv (m := 8) (n := 512)) _ f fun p => congrArg f (Fin.ext ?_)).symm
  show 512 * p.1.val + p.2.val = p.2.val + 512 * p.1.val
  omega

variable (m : (ℓ : Loc Cert.KernelIdeal.nD Cert.KernelIdeal.τ Cert.KernelIdeal.sig) → Buf (Elt Ideal) ℓ)
  (ρ : Dev Cert.KernelIdeal.nD → PrngReg)

/-- Where each device holds its part of the reference's arguments, its result is its block of the reference's. -/
theorem outAt_block (x : IVec S4096x4096 8) (w : IVec S4096x8192 8) (a b : FVec Ideal S1 .f32)
    (hx : ∀ c, Cert.KernelIdeal.X m c = Layout.block ⟨2, ![4096, 512]⟩ ⟨2, ![4096, 4096]⟩ 1 8 c x)
    (hw : ∀ c, Cert.KernelIdeal.W m c = Layout.block ⟨2, ![512, 8192]⟩ ⟨2, ![4096, 8192]⟩ 0 8 c w)
    (hab : ∀ c, Cert.KernelIdeal.AtIdeal.factor m c = a (ix1 0) * b (ix1 0)) (c : Dev Cert.KernelIdeal.nD) :
    Cert.KernelIdeal.outAt m ρ c = Layout.block ⟨2, ![512, 8192]⟩ ⟨2, ![4096, 8192]⟩ 0 8 c (refOut x w a b) := by
  have ex : ∀ (e : Fin 8) (I : Fin 4096) (k : Fin 512), Cert.KernelIdeal.X m e (ix2 I k) = x (ix2 I (Cert.KernelIdeal.rowAt e k)) := by
    intro e I k
    rw [hx, Layout.block_apply]
    refine congrArg x (funext fun ax => Fin.ext ?_)
    rw [Layout.Tiles.idx_val]
    match ax with
    | ⟨0, _⟩ => rfl
    | ⟨1, _⟩ => show e.val * 512 + k.val = 512 * e.val + k.val; omega
  have ew : ∀ (e : Fin 8) (k : Fin 512) (J : Fin 8192), Cert.KernelIdeal.W m e (ix2 k J) = w (ix2 (Cert.KernelIdeal.rowAt e k) J) := by
    intro e k J
    rw [hw, Layout.block_apply]
    refine congrArg w (funext fun ax => Fin.ext ?_)
    rw [Layout.Tiles.idx_val]
    match ax with
    | ⟨0, _⟩ => show e.val * 512 + k.val = 512 * e.val + k.val; omega
    | ⟨1, _⟩ => rfl
  funext i
  obtain ⟨r, J, rfl⟩ : ∃ (r : Fin 512) (J : Fin 8192), i = ix2 r J := ⟨i 0, i 1, eq_ix2 i⟩
  rw [Layout.block_apply]
  have er : Layout.Tiles.idx (by decide : Layout.Tiles ⟨2, ![512, 8192]⟩ ⟨2, ![4096, 8192]⟩ 0 8) c (ix2 r J) = ix2 (Cert.KernelIdeal.rowAt c r) J := by
    funext ax; apply Fin.ext
    rw [Layout.Tiles.idx_val]
    match ax with
    | ⟨0, _⟩ => show c.val * 512 + r.val = 512 * c.val + r.val; omega
    | ⟨1, _⟩ => rfl
  rw [er]
  refine (Cert.KernelIdeal.AtIdeal.outAt_apply m ρ c r J).trans ((refOut_apply x w a b _ J).trans ?_).symm
  rw [hab, sum_devices]
  unfold Cert.KernelIdeal.part
  simp only [ex, ew]

/-- Both programs run, and each device's result is its block of the reference's. -/
theorem algebraic : Cert.algebraic_KernelIdeal_ReferenceIdeal := by
  intro m ρ m' ρ' _ hag
  refine ⟨refOut (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1))
    (m' (((0 : Dev Cert.ReferenceIdeal.nD).tc : Thread _ Cert.ReferenceIdeal.τ).loc Cert.ReferenceIdeal.main_arg2))
    (m' (((0 : Dev Cert.ReferenceIdeal.nD).tc : Thread _ Cert.ReferenceIdeal.τ).loc Cert.ReferenceIdeal.main_arg3)), ?_, ?_⟩
  · refine (θ_run Cert.KernelIdeal.defs _ _).mono (fun r h c => ⟨?_, Cert.KernelIdeal.args_kept m ρ h.1 c⟩)
      (Cert.KernelIdeal.run_main (F := Ideal) m ρ)
    refine (h.1 c (4 : Fin 5)).trans ((Cert.KernelIdeal.finalA_out m ρ c).trans ?_)
    refine outAt_block m ρ _ _ _ _ (fun c => (hag c).1) (fun c => (hag c).2.1) (fun c => ?_) c
    unfold Cert.KernelIdeal.AtIdeal.factor
    rw [(hag c).2.2.1, (hag c).2.2.2]
  · exact (θ_run Cert.ReferenceIdeal.defs _ _).mono (fun _ h => h 0) (Cert.ReferenceIdeal.Value.run (F := Ideal) m' ρ')

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Same
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The printed kernel, at its bits: its program is the idealized kernel's. -/
theorem frame_kernel : Cert.quiescent_Kernel := by
  intro m ρ _
  rw [Cert.Same.defs_eq, Cert.Same.main_eq]
  exact (θ_run Cert.KernelIdeal.defs _ _).mono (fun _ h => ⟨Cert.KernelIdeal.args_kept m ρ h.1, h.2⟩)
    (Cert.KernelIdeal.run_main (F := Bits) m ρ)

/-- The idealized kernel, at the ideal values. -/
theorem frame_kernelIdeal : Cert.quiescent_KernelIdeal := fun m ρ _ =>
  (θ_run Cert.KernelIdeal.defs _ _).mono (fun _ h => ⟨Cert.KernelIdeal.args_kept m ρ h.1, h.2⟩)
    (Cert.KernelIdeal.run_main (F := Ideal) m ρ)

/-- The reference, at the ideal values: it has no semaphores. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- `Cert.Claim`: the claims together. -/
theorem claim : Cert.Claim := ⟨Cert.Kernel.Gen.facts, Cert.KernelIdeal.Gen.facts, Cert.ReferenceIdeal.Gen.facts,
  frame_kernel, frame_kernelIdeal, frame_reference, trivial, Cert.Agree.algebraic⟩

end Cert.Proof

end
